-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ preserves_Kernel_KernelIdeal
    ∧ algebraic_KernelIdeal_ReferenceIdeal_pre_usual (hKernelIdeal := hKernelIdeal) (hReferenceIdeal := hReferenceIdeal) (hPre_usual := hPre_usual)
-- ==== Pre_usual.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩

class Facts : Prop where
  reducesTo_S8x19x512x512_S8x512x512_d1 : S8x19x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  natLt_1_32 : 1 < 32
  bcast_S_S8x512x512 : S_.BroadcastsInDim S8x512x512 (![] : Fin 0 → Fin S8x512x512.rank)

variable [Facts]

def fn_part1 {F : FTy → Type} [FloatOps F] (main_arg1 : IVec S8x512x512 32) (main_v15 : IVec S8x512x512 1) (main_v16 : IVec S8x512x512 32) : IVec S8x512x512 1 :=
  let main_v17 : IVec S8x512x512 1 := cmpi .slt main_arg1 main_v16
  let main_v18 : IVec S8x512x512 1 := andi main_v15 main_v17
  main_v18

def fn {F : FTy → Type} [FloatOps F] (main_arg0 : FVec F S8x19x512x512 .f32) (main_arg1 : IVec S8x512x512 32) : IVec S8x512x512 1 :=
  let main_cst : FVec F S_ .f32 := constant S_ .f32 0xFF800000#32
  let main_v0 : FVec F S8x512x512 .f32 := (fun x v => Host.reduce FloatOps.maximumf x v reducesTo_S8x19x512x512_S8x512x512_d1 h_S_) main_arg0 main_cst
  let main_v1 : FVec F S8x19x512x512 .f32 := Host.absf main_arg0
  let main_cst_0 : FVec F S_ .f32 := constant S_ .f32 0xFF800000#32
  let main_v2 : FVec F S8x512x512 .f32 := (fun x v => Host.reduce FloatOps.maximumf x v reducesTo_S8x19x512x512_S8x512x512_d1 h_S_) main_v1 main_cst_0
  let main_v3 : FVec F S8x1x512x512 .f32 := broadcastInDim S8x1x512x512 ![0, 2, 3] bcast_S8x512x512_S8x1x512x512_0_2_3 main_v0
  let main_v4 : FVec F S8x19x512x512 .f32 := broadcastInDim S8x19x512x512 ![0, 1, 2, 3] bcast_S8x1x512x512_S8x19x512x512_0_1_2_3 main_v3
  let main_v5 : IVec S8x19x512x512 1 := cmpf .oeq main_arg0 main_v4
  let main_v6 : IVec S8x19x512x512 32 := (extui 32 · natLt_1_32) main_v5
  let main_c : IVec S_ 32 := constantI S_ 32 0#32
  let main_v7 : IVec S8x512x512 32 := (fun x v => Host.reduce IntOp.addi x v reducesTo_S8x19x512x512_S8x512x512_d1 h_S_) main_v6 main_c
  let main_cst_1 : FVec F S_ .f32 := constant S_ .f32 0x7F800000#32
  let main_v8 : FVec F S8x512x512 .f32 := broadcastInDim S8x512x512 ![] bcast_S_S8x512x512 main_cst_1
  let main_v9 : IVec S8x512x512 1 := cmpf .olt main_v2 main_v8
  let main_c_2 : IVec S_ 32 := constantI S_ 32 1#32
  let main_v10 : IVec S8x512x512 32 := broadcastInDim S8x512x512 ![] bcast_S_S8x512x512 main_c_2
  let main_v11 : IVec S8x512x512 1 := cmpi .eq main_v7 main_v10
  let main_v12 : IVec S8x512x512 1 := andi main_v9 main_v11
  let main_c_3 : IVec S_ 32 := constantI S_ 32 0#32
  let main_v13 : IVec S8x512x512 32 := broadcastInDim S8x512x512 ![] bcast_S_S8x512x512 main_c_3
  let main_v14 : IVec S8x512x512 1 := cmpi .sge main_arg1 main_v13
  let main_v15 : IVec S8x512x512 1 := andi main_v12 main_v14
  let main_c_4 : IVec S_ 32 := constantI S_ 32 19#32
  let main_v16 : IVec S8x512x512 32 := broadcastInDim S8x512x512 ![] bcast_S_S8x512x512 main_c_4
  fn_part1 (F := F) main_arg1 main_v15 main_v16
-- ==== Kernel.lean ====
abbrev S8x19x512x512 : Shape := ⟨4, ![8, 19, 512, 512]⟩
abbrev S8x512x512 : Shape := ⟨3, ![8, 512, 512]⟩
abbrev S8x128 : Shape := ⟨2, ![8, 128]⟩
abbrev S1x19x256x512 : Shape := ⟨4, ![1, 19, 256, 512]⟩
abbrev S1x256x512 : Shape := ⟨3, ![1, 256, 512]⟩
abbrev S19x512 : Shape := ⟨2, ![19, 512]⟩
abbrev S256x512 : Shape := ⟨2, ![256, 512]⟩
abbrev S1x8x512 : Shape := ⟨3, ![1, 8, 512]⟩
abbrev S8x512 : Shape := ⟨2, ![8, 512]⟩
abbrev S1x1x8x512 : Shape := ⟨4, ![1, 1, 8, 512]⟩
abbrev S16x512 : Shape := ⟨2, ![16, 512]⟩
abbrev S1x512 : Shape := ⟨2, ![1, 512]⟩
abbrev S512 : Shape := ⟨1, ![512]⟩
abbrev S19 : Shape := ⟨1, ![19]⟩
abbrev S1x19 : Shape := ⟨2, ![1, 19]⟩
abbrev S1 : Shape := ⟨1, ![1]⟩
abbrev S1x1 : Shape := ⟨2, ![1, 1]⟩
abbrev S_ : Shape := ⟨0, ![]⟩

abbrev nBuf : Space → Nat
  | .hbm => 5
  | .vmem => 11
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x256x512, .i32⟩
  | .local _ .vmem, ⟨3, _⟩ => ⟨S1x256x512, .i32⟩
  | .local _ .vmem, ⟨4, _⟩ => ⟨S8x128, .f32⟩
  | .local _ .vmem, ⟨5, _⟩ => ⟨S19x512, .f32⟩
  | .local _ .vmem, ⟨6, _⟩ => ⟨S19x512, .i32⟩
  | .local _ .vmem, ⟨7, _⟩ => ⟨S19x512, .i32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 2], ![false, false]⟩

def k0_off1 (c0_i32_2 : BitVec 32) : Fin 3 → Nat :=
  let c0 : Index := 0#32
  let c16_i32 : BitVec 32 := 16#32
  let v5 : BitVec 32 := Scalar.muli c0_i32_2 c16_i32
  let v6 : Index := Scalar.indexCast v5
  let c0_3 : Index := 0#32
  ![0, v6.toNat, 0]
def k0_off2 (c0_i32_2 : BitVec 32) : Fin 4 → Nat :=
  let c0_4 : Index := 0#32
  let c0_5 : Index := 0#32
  let c16_i32 : BitVec 32 := 16#32
  let v5 : BitVec 32 := Scalar.muli c0_i32_2 c16_i32
  let v9 : Index := Scalar.indexCast v5
  let c0_6 : Index := 0#32
  ![0, 0, v9.toNat, 0]
def k0_off3 (c0_i32_2 : BitVec 32) : Fin 4 → Nat :=
  let c0_7 : Index := 0#32
  let c1 : Index := 1#32
  let c16_i32 : BitVec 32 := 16#32
  let v5 : BitVec 32 := Scalar.muli c0_i32_2 c16_i32
  let v15 : Index := Scalar.indexCast v5
  let c0_8 : Index := 0#32
  ![0, 1, v15.toNat, 0]
def k0_off4 (c0_i32_2 : BitVec 32) : Fin 4 → Nat :=
  let c0_10 : Index := 0#32
  let c2 : Index := 2#32
  let c16_i32 : BitVec 32 := 16#32
  let v5 : BitVec 32 := Scalar.muli c0_i32_2 c16_i32
  let v26 : Index := Scalar.indexCast v5
  let c0_11 : Index := 0#32
  ![0, 2, v26.toNat, 0]
def k0_off5 (c0_i32_2 : BitVec 32) : Fin 4 → Nat :=
  let c0_13 : Index := 0#32
  let c3 : Index := 3#32
  let c16_i32 : BitVec 32 := 16#32
  let v5 : BitVec 32 := Scalar.muli c0_i32_2 c16_i32
  let v37 : Index := Scalar.indexCast v5
  let c0_14 : Index := 0#32
  ![0, 3, v37.toNat, 0]
def k0_off6 (c0_i32_2 : BitVec 32) : Fin 4 → Nat :=
  let c0_16 : Index := 0#32
  let c4 : Index := 4#32
  let c16_i32 : BitVec 32 := 16#32
  let v5 : BitVec 32 := Scalar.muli c0_i32_2 c16_i32
  let v48 : Index := Scalar.indexCast v5
  let c0_17 : Index := 0#32
  ![0, 4, v48.toNat, 0]
def k0_off7 (c0_i32_2 : BitVec 32) : Fin 4 → Nat :=
  let c0_19 : Index := 0#32
  let c5 : Index := 5#32
  let c16_i32 : BitVec 32 := 16#32
  let v5 : BitVec 32 := Scalar.muli c0_i32_2 c16_i32
  let v59 : Index := Scalar.indexCast v5
  let c0_20 : Index := 0#32
  ![0, 5, v59.toNat, 0]
def k0_off8 (c0_i32_2 : BitVec 32) : Fin 4 → Nat :=
  let c0_22 : Index := 0#32
  let c6 : Index := 6#32
  let c16_i32 : BitVec 32 := 16#32
  let v5 : BitVec 32 := Scalar.muli c0_i32_2 c16_i32
  let v70 : Index := Scalar.indexCast v5
  let c0_23 : Index := 0#32
  ![0, 6, v70.toNat, 0]
def k0_off9 (c0_i32_2 : BitVec 32) : Fin 4 → Nat :=
  let c0_25 : Index := 0#32
  let c7 : Index := 7#32
  let c16_i32 : BitVec 32 := 16#32
  let v5 : BitVec 32 := Scalar.muli c0_i32_2 c16_i32
  let v81 : Index := Scalar.indexCast v5
  let c0_26 : Index := 0#32
  ![0, 7, v81.toNat, 0]
def k0_off10 (c0_i32_2 : BitVec 32) : Fin 4 → Nat :=
  let c0_28 : Index := 0#32
  let c8 : Index := 8#32
  let c16_i32 : BitVec 32 := 16#32
  let v5 : BitVec 32 := Scalar.muli c0_i32_2 c16_i32
  let v92 : Index := Scalar.indexCast v5
  let c0_29 : Index := 0#32
  ![0, 8, v92.toNat, 0]
def k0_off11 (c0_i32_2 : BitVec 32) : Fin 4 → Nat :=
  let c0_31 : Index := 0#32
  let c9 : Index := 9#32
  let c16_i32 : BitVec 32 := 16#32
  let v5 : BitVec 32 := Scalar.muli c0_i32_2 c16_i32
  let v103 : Index := Scalar.indexCast v5
  let c0_32 : Index := 0#32
  ![0, 9, v103.toNat, 0]
def k0_off12 (c0_i32_2 : BitVec 32) : Fin 4 → Nat :=
  let c0_34 : Index := 0#32
  let c10 : Index := 10#32
  let c16_i32 : BitVec 32 := 16#32
  let v5 : BitVec 32 := Scalar.muli c0_i32_2 c16_i32
  let v114 : Index := Scalar.indexCast v5
  let c0_35 : Index := 0#32
  ![0, 10, v114.toNat, 0]
def k0_off13 (c0_i32_2 : BitVec 32) : Fin 4 → Nat :=
  let c0_37 : Index := 0#32
  let c11 : Index := 11#32
  let c16_i32 : BitVec 32 := 16#32
  let v5 : BitVec 32 := Scalar.muli c0_i32_2 c16_i32
  let v125 : Index := Scalar.indexCast v5
  let c0_38 : Index := 0#32
  ![0, 11, v125.toNat, 0]
def k0_off14 (c0_i32_2 : BitVec 32) : Fin 4 → Nat :=
  let c0_40 : Index := 0#32
  let c12 : Index := 12#32
  let c16_i32 : BitVec 32 := 16#32
  let v5 : BitVec 32 := Scalar.muli c0_i32_2 c16_i32
  let v136 : Index := Scalar.indexCast v5
  let c0_41 : Index := 0#32
  ![0, 12, v136.toNat, 0]
def k0_off15 (c0_i32_2 : BitVec 32) : Fin 4 → Nat :=
  let c0_43 : Index := 0#32
  let c13 : Index := 13#32
  let c16_i32 : BitVec 32 := 16#32
  let v5 : BitVec 32 := Scalar.muli c0_i32_2 c16_i32
  let v147 : Index := Scalar.indexCast v5
  let c0_44 : Index := 0#32
  ![0, 13, v147.toNat, 0]
def k0_off16 (c0_i32_2 : BitVec 32) : Fin 4 → Nat :=
  let c0_46 : Index := 0#32
  let c14 : Index := 14#32
  let c16_i32 : BitVec 32 := 16#32
  let v5 : BitVec 32 := Scalar.muli c0_i32_2 c16_i32
  let v158 : Index := Scalar.indexCast v5
  let c0_47 : Index := 0#32
  ![0, 14, v158.toNat, 0]
def k0_off17 (c0_i32_2 : BitVec 32) : Fin 4 → Nat :=
  let c0_49 : Index := 0#32
  let c15 : Index := 15#32
  let c16_i32 : BitVec 32 := 16#32
  let v5 : BitVec 32 := Scalar.muli c0_i32_2 c16_i32
  let v169 : Index := Scalar.indexCast v5
  let c0_50 : Index := 0#32
  ![0, 15, v169.toNat, 0]
def k0_off18 (c0_i32_2 : BitVec 32) : Fin 4 → Nat :=
  let c0_52 : Index := 0#32
  let c16 : Index := 16#32
  let c16_i32 : BitVec 32 := 16#32
  let v5 : BitVec 32 := Scalar.muli c0_i32_2 c16_i32
  let v180 : Index := Scalar.indexCast v5
  let c0_53 : Index := 0#32
  ![0, 16, v180.toNat, 0]
def k0_off19 (c0_i32_2 : BitVec 32) : Fin 4 → Nat :=
  let c0_56 : Index := 0#32
  let c17 : Index := 17#32
  let c16_i32 : BitVec 32 := 16#32
  let v5 : BitVec 32 := Scalar.muli c0_i32_2 c16_i32
  let v191 : Index := Scalar.indexCast v5
  let c0_57 : Index := 0#32
  ![0, 17, v191.toNat, 0]
def k0_off20 (c0_i32_2 : BitVec 32) : Fin 4 → Nat :=
  let c0_59 : Index := 0#32
  let c18 : Index := 18#32
  let c16_i32 : BitVec 32 := 16#32
  let v5 : BitVec 32 := Scalar.muli c0_i32_2 c16_i32
  let v202 : Index := Scalar.indexCast v5
  let c0_60 : Index := 0#32
  ![0, 18, v202.toNat, 0]
def k0_off21 (c0_i32_2 : BitVec 32) : Fin 3 → Nat :=
  let c0_68 : Index := 0#32
  let c16_i32_66 : BitVec 32 := 16#32
  let v223 : BitVec 32 := Scalar.muli c0_i32_2 c16_i32_66
  let c8_i32_67 : BitVec 32 := 8#32
  let v224 : BitVec 32 := Scalar.addi v223 c8_i32_67
  let v225 : Index := Scalar.indexCast v224
  let c0_69 : Index := 0#32
  ![0, v225.toNat, 0]
def k0_off22 (c0_i32_2 : BitVec 32) : Fin 4 → Nat :=
  let c0_70 : Index := 0#32
  let c0_71 : Index := 0#32
  let c16_i32_66 : BitVec 32 := 16#32
  let v223 : BitVec 32 := Scalar.muli c0_i32_2 c16_i32_66
  let c8_i32_67 : BitVec 32 := 8#32
  let v224 : BitVec 32 := Scalar.addi v223 c8_i32_67
  let v228 : Index := Scalar.indexCast v224
  let c0_72 : Index := 0#32
  ![0, 0, v228.toNat, 0]
def k0_off23 (c0_i32_2 : BitVec 32) : Fin 4 → Nat :=
  let c0_74 : Index := 0#32
  let c1_75 : Index := 1#32
  let c16_i32_66 : BitVec 32 := 16#32
  let v223 : BitVec 32 := Scalar.muli c0_i32_2 c16_i32_66
  let c8_i32_67 : BitVec 32 := 8#32
  let v224 : BitVec 32 := Scalar.addi v223 c8_i32_67
  let v234 : Index := Scalar.indexCast v224
  let c0_76 : Index := 0#32
  ![0, 1, v234.toNat, 0]
def k0_off24 (c0_i32_2 : BitVec 32) : Fin 4 → Nat :=
  let c0_79 : Index := 0#32
  let c2_80 : Index := 2#32
  let c16_i32_66 : BitVec 32 := 16#32
  let v223 : BitVec 32 := Scalar.muli c0_i32_2 c16_i32_66
  let c8_i32_67 : BitVec 32 := 8#32
  let v224 : BitVec 32 := Scalar.addi v223 c8_i32_67
  let v245 : Index := Scalar.indexCast v224
  let c0_81 : Index := 0#32
  ![0, 2, v245.toNat, 0]
def k0_off25 (c0_i32_2 : BitVec 32) : Fin 4 → Nat :=
  let c0_84 : Index := 0#32
  let c3_85 : Index := 3#32
  let c16_i32_66 : BitVec 32 := 16#32
  let v223 : BitVec 32 := Scalar.muli c0_i32_2 c16_i32_66
  let c8_i32_67 : BitVec 32 := 8#32
  let v224 : BitVec 32 := Scalar.addi v223 c8_i32_67
  let v256 : Index := Scalar.indexCast v224
  let c0_86 : Index := 0#32
  ![0, 3, v256.toNat, 0]
def k0_off26 (c0_i32_2 : BitVec 32) : Fin 4 → Nat :=
  let c0_89 : Index := 0#32
  let c4_90 : Index := 4#32
  let c16_i32_66 : BitVec 32 := 16#32
  let v223 : BitVec 32 := Scalar.muli c0_i32_2 c16_i32_66
  let c8_i32_67 : BitVec 32 := 8#32
  let v224 : BitVec 32 := Scalar.addi v223 c8_i32_67
  let v267 : Index := Scalar.indexCast v224
  let c0_91 : Index := 0#32
  ![0, 4, v267.toNat, 0]
def k0_off27 (c0_i32_2 : BitVec 32) : Fin 4 → Nat :=
  let c0_94 : Index := 0#32
  let c5_95 : Index := 5#32
  let c16_i32_66 : BitVec 32 := 16#32
  let v223 : BitVec 32 := Scalar.muli c0_i32_2 c16_i32_66
  let c8_i32_67 : BitVec 32 := 8#32
  let v224 : BitVec 32 := Scalar.addi v223 c8_i32_67
  let v278 : Index := Scalar.indexCast v224
  let c0_96 : Index := 0#32
  ![0, 5, v278.toNat, 0]
def k0_off28 (c0_i32_2 : BitVec 32) : Fin 4 → Nat :=
  let c0_99 : Index := 0#32
  let c6_100 : Index := 6#32
  let c16_i32_66 : BitVec 32 := 16#32
  let v223 : BitVec 32 := Scalar.muli c0_i32_2 c16_i32_66
  let c8_i32_67 : BitVec 32 := 8#32
  let v224 : BitVec 32 := Scalar.addi v223 c8_i32_67
  let v289 : Index := Scalar.indexCast v224
  let c0_101 : Index := 0#32
  ![0, 6, v289.toNat, 0]
def k0_off29 (c0_i32_2 : BitVec 32) : Fin 4 → Nat :=
  let c0_104 : Index := 0#32
  let c7_105 : Index := 7#32
  let c16_i32_66 : BitVec 32 := 16#32
  let v223 : BitVec 32 := Scalar.muli c0_i32_2 c16_i32_66
  let c8_i32_67 : BitVec 32 := 8#32
  let v224 : BitVec 32 := Scalar.addi v223 c8_i32_67
  let v300 : Index := Scalar.indexCast v224
  let c0_106 : Index := 0#32
  ![0, 7, v300.toNat, 0]
def k0_off30 (c0_i32_2 : BitVec 32) : Fin 4 → Nat :=
  let c0_109 : Index := 0#32
  let c8_110 : Index := 8#32
  let c16_i32_66 : BitVec 32 := 16#32
  let v223 : BitVec 32 := Scalar.muli c0_i32_2 c16_i32_66
  let c8_i32_67 : BitVec 32 := 8#32
  let v224 : BitVec 32 := Scalar.addi v223 c8_i32_67
  let v311 : Index := Scalar.indexCast v224
  let c0_111 : Index := 0#32
  ![0, 8, v311.toNat, 0]
def k0_off31 (c0_i32_2 : BitVec 32) : Fin 4 → Nat :=
  let c0_114 : Index := 0#32
  let c9_115 : Index := 9#32
  let c16_i32_66 : BitVec 32 := 16#32
  let v223 : BitVec 32 := Scalar.muli c0_i32_2 c16_i32_66
  let c8_i32_67 : BitVec 32 := 8#32
  let v224 : BitVec 32 := Scalar.addi v223 c8_i32_67
  let v322 : Index := Scalar.indexCast v224
  let c0_116 : Index := 0#32
  ![0, 9, v322.toNat, 0]
def k0_off32 (c0_i32_2 : BitVec 32) : Fin 4 → Nat :=
  let c0_119 : Index := 0#32
  let c10_120 : Index := 10#32
  let c16_i32_66 : BitVec 32 := 16#32
  let v223 : BitVec 32 := Scalar.muli c0_i32_2 c16_i32_66
  let c8_i32_67 : BitVec 32 := 8#32
  let v224 : BitVec 32 := Scalar.addi v223 c8_i32_67
  let v333 : Index := Scalar.indexCast v224
  let c0_121 : Index := 0#32
  ![0, 10, v333.toNat, 0]
def k0_off33 (c0_i32_2 : BitVec 32) : Fin 4 → Nat :=
  let c0_124 : Index := 0#32
  let c11_125 : Index := 11#32
  let c16_i32_66 : BitVec 32 := 16#32
  let v223 : BitVec 32 := Scalar.muli c0_i32_2 c16_i32_66
  let c8_i32_67 : BitVec 32 := 8#32
  let v224 : BitVec 32 := Scalar.addi v223 c8_i32_67
  let v344 : Index := Scalar.indexCast v224
  let c0_126 : Index := 0#32
  ![0, 11, v344.toNat, 0]
def k0_off34 (c0_i32_2 : BitVec 32) : Fin 4 → Nat :=
  let c0_129 : Index := 0#32
  let c12_130 : Index := 12#32
  let c16_i32_66 : BitVec 32 := 16#32
  let v223 : BitVec 32 := Scalar.muli c0_i32_2 c16_i32_66
  let c8_i32_67 : BitVec 32 := 8#32
  let v224 : BitVec 32 := Scalar.addi v223 c8_i32_67
  let v355 : Index := Scalar.indexCast v224
  let c0_131 : Index := 0#32
  ![0, 12, v355.toNat, 0]
def k0_off35 (c0_i32_2 : BitVec 32) : Fin 4 → Nat :=
  let c0_134 : Index := 0#32
  let c13_135 : Index := 13#32
  let c16_i32_66 : BitVec 32 := 16#32
  let v223 : BitVec 32 := Scalar.muli c0_i32_2 c16_i32_66
  let c8_i32_67 : BitVec 32 := 8#32
  let v224 : BitVec 32 := Scalar.addi v223 c8_i32_67
  let v366 : Index := Scalar.indexCast v224
  let c0_136 : Index := 0#32
  ![0, 13, v366.toNat, 0]
def k0_off36 (c0_i32_2 : BitVec 32) : Fin 4 → Nat :=
  let c0_139 : Index := 0#32
  let c14_140 : Index := 14#32
  let c16_i32_66 : BitVec 32 := 16#32
  let v223 : BitVec 32 := Scalar.muli c0_i32_2 c16_i32_66
  let c8_i32_67 : BitVec 32 := 8#32
  let v224 : BitVec 32 := Scalar.addi v223 c8_i32_67
  let v377 : Index := Scalar.indexCast v224
  let c0_141 : Index := 0#32
  ![0, 14, v377.toNat, 0]
def k0_off37 (c0_i32_2 : BitVec 32) : Fin 4 → Nat :=
  let c0_144 : Index := 0#32
  let c15_145 : Index := 15#32
  let c16_i32_66 : BitVec 32 := 16#32
  let v223 : BitVec 32 := Scalar.muli c0_i32_2 c16_i32_66
  let c8_i32_67 : BitVec 32 := 8#32
  let v224 : BitVec 32 := Scalar.addi v223 c8_i32_67
  let v388 : Index := Scalar.indexCast v224
  let c0_146 : Index := 0#32
  ![0, 15, v388.toNat, 0]
def k0_off38 (c0_i32_2 : BitVec 32) : Fin 4 → Nat :=
  let c0_149 : Index := 0#32
  let c16_150 : Index := 16#32
  let c16_i32_66 : BitVec 32 := 16#32
  let v223 : BitVec 32 := Scalar.muli c0_i32_2 c16_i32_66
  let c8_i32_67 : BitVec 32 := 8#32
  let v224 : BitVec 32 := Scalar.addi v223 c8_i32_67
  let v399 : Index := Scalar.indexCast v224
  let c0_151 : Index := 0#32
  ![0, 16, v399.toNat, 0]
def k0_off39 (c0_i32_2 : BitVec 32) : Fin 4 → Nat :=
  let c0_154 : Index := 0#32
  let c17_155 : Index := 17#32
  let c16_i32_66 : BitVec 32 := 16#32
  let v223 : BitVec 32 := Scalar.muli c0_i32_2 c16_i32_66
  let c8_i32_67 : BitVec 32 := 8#32
  let v224 : BitVec 32 := Scalar.addi v223 c8_i32_67
  let v410 : Index := Scalar.indexCast v224
  let c0_156 : Index := 0#32
  ![0, 17, v410.toNat, 0]
def k0_off40 (c0_i32_2 : BitVec 32) : Fin 4 → Nat :=
  let c0_159 : Index := 0#32
  let c18_160 : Index := 18#32
  let c16_i32_66 : BitVec 32 := 16#32
  let v223 : BitVec 32 := Scalar.muli c0_i32_2 c16_i32_66
  let c8_i32_67 : BitVec 32 := 8#32
  let v224 : BitVec 32 := Scalar.addi v223 c8_i32_67
  let v421 : Index := Scalar.indexCast v224
  let c0_161 : Index := 0#32
  ![0, 18, v421.toNat, 0]
def k0_off41 (c0_i32_2 : BitVec 32) : Fin 2 → Nat :=
  let c16_i32_168 : BitVec 32 := 16#32
  let v442 : BitVec 32 := Scalar.muli c0_i32_2 c16_i32_168
  let v445 : Index := Scalar.indexCast v442
  let c0_169 : Index := 0#32
  ![v445.toNat, 0]
def k0_cond2 (i : grid0.Coords) : BitVec 1 :=
  let arg0 : BitVec 32 := BitVec.ofNat 32 (i 0).val
  let c7_i32_3603 : BitVec 32 := 7#32
  let v7851 : BitVec 1 := Scalar.cmpi .eq arg0 c7_i32_3603
  let arg1 : BitVec 32 := BitVec.ofNat 32 (i 1).val
  let c1_i32_3604 : BitVec 32 := 1#32
  let v7852 : BitVec 1 := Scalar.cmpi .eq arg1 c1_i32_3604
  let v7853 : BitVec 1 := Scalar.andi v7851 v7852
  let v7854 : BitVec 32 := Scalar.extui v7853
  let c0_i32_3605 : BitVec 32 := 0#32
  let v7855 : BitVec 1 := Scalar.cmpi .ne v7854 c0_i32_3605
  v7855

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "ln_2" => some ((Real.log 2 : ℝ) : EReal)
  | "log2_e" => some (((Real.log 2)⁻¹ : ℝ) : EReal)
  | _ => none
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S19 : Shape := ⟨1, ![19]⟩
abbrev S2097152x1 : Shape := ⟨2, ![2097152, 1]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩

abbrev nBuf : Space → Nat
  | .hbm => 113
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S8x512x512, .i1⟩
  | .hbm, ⟨8, _⟩ => ⟨S2097152, .i1⟩
  | .hbm, ⟨9, _⟩ => ⟨S2097152, .i32⟩
  | .hbm, ⟨10, _⟩ => ⟨S_, .i32⟩
  | .hbm, ⟨11, _⟩ => ⟨S19, .i32⟩
  | .hbm, ⟨12, _⟩ => ⟨S_, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S_, .i32⟩
  | .hbm, ⟨25, _⟩ => ⟨S2097152, .i32⟩
  | .hbm, ⟨26, _⟩ => ⟨S19, .i32⟩
  | .hbm, ⟨27, _⟩ => ⟨S_, .i32⟩
  | .hbm, ⟨28, _⟩ => ⟨S19, .i32⟩
  | .hbm, ⟨29, _⟩ => ⟨S19, .i1⟩
  | .hbm, ⟨30, _⟩ => ⟨S_, .i32⟩
  | .hbm, ⟨31, _⟩ => ⟨S_, .i32⟩
  | .hbm, ⟨32, _⟩ => ⟨S19, .i32⟩
  | .hbm, ⟨33, _⟩ => ⟨S19, .i32⟩
  | .hbm, ⟨34, _⟩ => ⟨S19, .f32⟩
  | .hbm, ⟨35, _⟩ => ⟨S2097152, .f32⟩
  | .hbm, ⟨36, _⟩ => ⟨S_, .f32⟩
  | .hbm, ⟨37, _⟩ => ⟨S19, .f32⟩
  | .hbm, ⟨38, _⟩ => ⟨S_, .i32⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S_, .i32⟩
  | .hbm, ⟨43, _⟩ => ⟨S2097152, .i32⟩
  | .hbm, ⟨44, _⟩ => ⟨S2097152, .i1⟩
  | .hbm, ⟨45, _⟩ => ⟨S_, .i32⟩
  | .hbm, ⟨46, _⟩ => ⟨S2097152, .i32⟩
  | .hbm, ⟨47, _⟩ => ⟨S2097152, .i32⟩
  | .hbm, ⟨48, _⟩ => ⟨S2097152, .i32⟩
  | .hbm, ⟨49, _⟩ => ⟨S2097152x1, .i32⟩
  | .hbm, ⟨50, _⟩ => ⟨S19, .f32⟩
  | .hbm, ⟨51, _⟩ => ⟨S_, .f32⟩
  | .hbm, ⟨52, _⟩ => ⟨S19, .f32⟩
  | .hbm, ⟨53, _⟩ => ⟨S19, .i1⟩
  | .hbm, ⟨54, _⟩ => ⟨S_, .f32⟩
  | .hbm, ⟨55, _⟩ => ⟨S_, .f32⟩
  | .hbm, ⟨56, _⟩ => ⟨S19, .f32⟩
  | .hbm, ⟨57, _⟩ => ⟨S19, .f32⟩
  | .hbm, ⟨58, _⟩ => ⟨S19, .f32⟩
  | .hbm, ⟨59, _⟩ => ⟨S_, .f32⟩
  | .hbm, ⟨60, _⟩ => ⟨S8x512x512, .f32⟩
  | .hbm, ⟨61, _⟩ => ⟨S_, .f32⟩
  | .hbm, ⟨62, _⟩ => ⟨S8x512x512, .f32⟩
  | .hbm, ⟨63, _⟩ => ⟨S8x512x512, .f32⟩
  | .hbm, ⟨64, _⟩ => ⟨S8x1x512x512, .f32⟩
  | .hbm, ⟨65, _⟩ => ⟨S8x19x512x512, .f32⟩
  | .hbm, ⟨66, _⟩ => ⟨S8x19x512x512, .f32⟩
  | .hbm, ⟨67, _⟩ => ⟨S8x19x512x512, .f32⟩
  | .hbm, ⟨68, _⟩ => ⟨S_, .f32⟩
  | .hbm, ⟨69, _⟩ => ⟨S8x512x512, .f32⟩
  | .hbm, ⟨70, _⟩ => ⟨S8x1x512x512, .f32⟩
  | .hbm, ⟨71, _⟩ => ⟨S8x1x512x512, .f32⟩
  | .hbm, ⟨72, _⟩ => ⟨S8x19x512x512, .f32⟩
  | .hbm, ⟨73, _⟩ => ⟨S8x19x512x512, .f32⟩
  | .hbm, ⟨74, _⟩ => ⟨S8x1x512x512, .i32⟩
  | .hbm, ⟨75, _⟩ => ⟨S_, .i32⟩
  | .hbm, ⟨76, _⟩ => ⟨S8x1x512x512, .i32⟩
  | .hbm, ⟨77, _⟩ => ⟨S8x1x512x512, .i1⟩
  | .hbm, ⟨78, _⟩ => ⟨S_, .i32⟩
  | .hbm, ⟨79, _⟩ => ⟨S8x1x512x512, .i32⟩
  | .hbm, ⟨80, _⟩ => ⟨S8x1x512x512, .i32⟩
  | .hbm, ⟨81, _⟩ => ⟨S8x1x512x512, .i32⟩
  | .hbm, ⟨82, _⟩ => ⟨S8x1x512x512x1, .i32⟩
  | .hbm, ⟨83, _⟩ => ⟨S1, .i32⟩
  | .hbm, ⟨84, _⟩ => ⟨S_, .i32⟩
  | .hbm, ⟨85, _⟩ => ⟨S8x1x512x512x1, .i32⟩
  | .hbm, ⟨86, _⟩ => ⟨S8x1x512x512x1, .i1⟩
  | .hbm, ⟨87, _⟩ => ⟨S1x1x1x1x1, .i32⟩
  | .hbm, ⟨88, _⟩ => ⟨S8x1x512x512x1, .i32⟩
  | .hbm, ⟨89, _⟩ => ⟨S8x1x512x512x1, .i1⟩
  | .hbm, ⟨90, _⟩ => ⟨S8x1x512x512x1, .i1⟩
  | .hbm, ⟨91, _⟩ => ⟨S_, .i1⟩
  | .hbm, ⟨92, _⟩ => ⟨S8x1x512x512, .i1⟩
  | .hbm, ⟨93, _⟩ => ⟨S8x1x512x512, .f32⟩
  | .hbm, ⟨94, _⟩ => ⟨S_, .f32⟩
  | .hbm, ⟨95, _⟩ => ⟨S8x1x512x512, .f32⟩
  | .hbm, ⟨96, _⟩ => ⟨S8x1x512x512, .f32⟩
  | .hbm, ⟨97, _⟩ => ⟨S8x512x512, .f32⟩
  | .hbm, ⟨98, _⟩ => ⟨S8x512x512, .f32⟩
  | .hbm, ⟨99, _⟩ => ⟨S_, .i32⟩
  | .hbm, ⟨100, _⟩ => ⟨S8x512x512, .i32⟩
  | .hbm, ⟨101, _⟩ => ⟨S8x512x512, .i1⟩
  | .hbm, ⟨102, _⟩ => ⟨S_, .i32⟩
  | .hbm, ⟨103, _⟩ => ⟨S8x512x512, .i32⟩
  | .hbm, ⟨104, _⟩ => ⟨S8x512x512, .i32⟩
  | .hbm, ⟨105, _⟩ => ⟨S8x512x512, .i32⟩
  | .hbm, ⟨106, _⟩ => ⟨S8x512x512x1, .i32⟩
  | .hbm, ⟨107, _⟩ => ⟨S8x512x512, .f32⟩
  | .hbm, ⟨108, _⟩ => ⟨S8x512x512, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_c_6 : Ref sig .tc := ⟨.hbm, 38, rfl⟩
abbrev main_call3_v0 : Ref sig .tc := ⟨.hbm, 39, rfl⟩
abbrev main_call3_v1 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_c_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_call4_v0 : Ref sig .tc := ⟨.hbm, 55, rfl⟩
abbrev main_call4_v1 : Ref sig .tc := ⟨.hbm, 56, rfl⟩
abbrev main_v30 : Ref sig .tc := ⟨.hbm, 57, rfl⟩
abbrev main_v31 : Ref sig .tc := ⟨.hbm, 58, rfl⟩
abbrev main_call5_cst : Ref sig .tc := ⟨.hbm, 59, rfl⟩
abbrev main_call5_v0 : Ref sig .tc := ⟨.hbm, 60, rfl⟩
abbrev main_call5_cst_0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_v6 : Ref sig .tc := ⟨.hbm, 67, rfl⟩
abbrev main_call5_cst_1 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_v32 : Ref sig .tc := ⟨.hbm, 73, rfl⟩
abbrev main_v33 : Ref sig .tc := ⟨.hbm, 74, rfl⟩
abbrev main_call6_c : Ref sig .tc := ⟨.hbm, 75, rfl⟩
abbrev main_call6_v0 : Ref sig .tc := ⟨.hbm, 76, rfl⟩
abbrev main_call6_v1 : Ref sig .tc := ⟨.hbm, 77, rfl⟩
abbrev main_call6_c_0 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_call6_v5 : Ref sig .tc := ⟨.hbm, 82, rfl⟩
abbrev main_call6_c_1 : Ref sig .tc := ⟨.hbm, 83, rfl⟩
abbrev main_call6_c_2 : Ref sig .tc := ⟨.hbm, 84, rfl⟩
abbrev main_call6_v6 : Ref sig .tc := ⟨.hbm, 85, rfl⟩
abbrev main_call6_v7 : Ref sig .tc := ⟨.hbm, 86, rfl⟩
abbrev main_call6_v8 : Ref sig .tc := ⟨.hbm, 87, rfl⟩
abbrev main_call6_v9 : Ref sig .tc := ⟨.hbm, 88, rfl⟩
abbrev main_call6_v10 : Ref sig .tc := ⟨.hbm, 89, rfl⟩
abbrev main_call6_v11 : Ref sig .tc := ⟨.hbm, 90, rfl⟩
abbrev main_call6_c_3 : Ref sig .tc := ⟨.hbm, 91, rfl⟩
abbrev main_call6_v12 : Ref sig .tc := ⟨.hbm, 92, rfl⟩
abbrev main_call6_v13 : Ref sig .tc := ⟨.hbm, 93, rfl⟩
abbrev main_call6_cst : Ref sig .tc := ⟨.hbm, 94, rfl⟩
abbrev main_call6_v14 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_c_11 : Ref sig .tc := ⟨.hbm, 99, rfl⟩
abbrev main_v37 : Ref sig .tc := ⟨.hbm, 100, rfl⟩
abbrev main_v38 : Ref sig .tc := ⟨.hbm, 101, rfl⟩
abbrev main_c_12 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_13 : Ref sig .tc := ⟨.hbm, 109, rfl⟩
abbrev main_v45 : Ref sig .tc := ⟨.hbm, 110, rfl⟩
abbrev main_cst_14 : Ref sig .tc := ⟨.hbm, 111, rfl⟩
abbrev main_v46 : Ref sig .tc := ⟨.hbm, 112, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Lib.StableHlo.Run

/-! The reference's run: its host operations as a list, and the buffer it returns as a function of the two arguments,
    stated in named stages (prediction, per-class counts, weights, log-probabilities, the target's entry, the mean). -/

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The predicted class of every pixel. -/
def pred (X : FVec F S8x19x512x512 .f32) : IVec S8x512x512 32 :=
  fun j => (Host.argReduce reducer_argmax_f32_i32 X (iotaInDim S8x19x512x512 32 1) (constant S_ .f32 0xFF800000#32) (constantI S_ 32 0#32) reducesTo_S8x19x512x512_S8x512x512_d1 h_S_ j).2

/-- Whether a pixel is misclassified, on the flat list of pixels. -/
def missed (X : FVec F S8x19x512x512 .f32) (T : IVec S8x512x512 32) : IVec S2097152 1 :=
  shapeCast S2097152 (cmpi .ne (pred X) T) shapeCasts_S8x512x512_S2097152

/-- The targets on the flat list of pixels, clipped at zero from below. -/
def clipped (T : IVec S8x512x512 32) : IVec S2097152 32 :=
  maxsi (broadcastInDim S2097152 ![] bcast_S_S2097152 (id (constantI S_ 32 0#32))) (shapeCast S2097152 T shapeCasts_S8x512x512_S2097152)

/-- The bin every pixel is counted in. -/
def bins (T : IVec S8x512x512 32) : IVec S2097152x1 32 :=
  broadcastInDim S2097152x1 ![0] bcast_S2097152_S2097152x1_0
    (select (cmpi .slt (clipped T) (broadcastInDim S2097152 ![] bcast_S_S2097152 (constantI S_ 32 0#32)))
      (addi (clipped T) (broadcastInDim S2097152 ![] bcast_S_S2097152 (constantI S_ 32 19#32))) (clipped T))

/-- The pixels of each class. -/
def gtCount (T : IVec S8x512x512 32) : IVec S19 32 :=
  Host.scatter scatter_S19_S2097152x1_S2097152_n_0_0_1 IntOp.addi (broadcastInDim S19 ![] bcast_S_S19 (constantI S_ 32 0#32)) (bins T)
    (broadcastInDim S2097152 ![] bcast_S_S2097152 (constantI S_ 32 1#32))

/-- The misclassified pixels of each class. -/
def fnCount (X : FVec F S8x19x512x512 .f32) (T : IVec S8x512x512 32) : FVec F S19 .f32 :=
  Host.scatterAdd scatter_S19_S2097152x1_S2097152_n_0_0_1 (broadcastInDim S19 ![] bcast_S_S19 (constant S_ .f32 0x00000000#32)) (bins T)
    (uitofp .f32 (missed X T))

/-- The weight of each class. -/
def weight (X : FVec F S8x19x512x512 .f32) (T : IVec S8x512x512 32) : FVec F S19 .f32 :=
  Host.divf
    (select (cmpf .ogt (fnCount X T) (broadcastInDim S19 ![] bcast_S_S19 (constant S_ .f32 0x00000000#32))) (fnCount X T)
      (broadcastInDim S19 ![] bcast_S_S19 (id (constant S_ .f32 0x3F800000#32))))
    (sitofp .f32 (select (cmpi .sgt (gtCount T) (broadcastInDim S19 ![] bcast_S_S19 (constantI S_ 32 0#32))) (gtCount T)
      (broadcastInDim S19 ![] bcast_S_S19 (id (constantI S_ 32 1#32)))))

/-- The logits less their maximum. -/
def shifted (X : FVec F S8x19x512x512 .f32) : FVec F S8x19x512x512 .f32 :=
  subf X (broadcastInDim S8x19x512x512 ![0, 1, 2, 3] bcast_S8x1x512x512_S8x19x512x512_0_1_2_3
    (broadcastInDim S8x1x512x512 ![0, 2, 3] bcast_S8x512x512_S8x1x512x512_0_2_3
      (maximumf (broadcastInDim S8x512x512 ![] bcast_S_S8x512x512 (constant S_ .f32 0xFF800000#32))
        (Host.reduce FloatOps.maximumf X (constant S_ .f32 0xFF800000#32) reducesTo_S8x19x512x512_S8x512x512_d1 h_S_))))

/-- The logarithms of the softmax. -/
def logp (X : FVec F S8x19x512x512 .f32) : FVec F S8x19x512x512 .f32 :=
  subf (shifted X) (broadcastInDim S8x19x512x512 ![0, 1, 2, 3] bcast_S8x1x512x512_S8x19x512x512_0_1_2_3
    (Host.log (broadcastInDim S8x1x512x512 ![0, 2, 3] bcast_S8x512x512_S8x1x512x512_0_2_3
      (Host.reduceAdd (Host.exp (shifted X)) (constant S_ .f32 0x00000000#32) reducesTo_S8x19x512x512_S8x512x512_d1 h_S_))))

/-- The class each pixel's log-probability is taken at. -/
def place (T : IVec S8x512x512 32) : IVec S8x1x512x512x1 32 :=
  shapeCast S8x1x512x512x1
    (select (cmpi .slt (broadcastInDim S8x1x512x512 ![0, 2, 3] bcast_S8x512x512_S8x1x512x512_0_2_3 T) (broadcastInDim S8x1x512x512 ![] bcast_S_S8x1x512x512 (constantI S_ 32 0#32)))
      (addi (broadcastInDim S8x1x512x512 ![0, 2, 3] bcast_S8x512x512_S8x1x512x512_0_2_3 T) (broadcastInDim S8x1x512x512 ![] bcast_S_S8x1x512x512 (constantI S_ 32 19#32)))
      (broadcastInDim S8x1x512x512 ![0, 2, 3] bcast_S8x512x512_S8x1x512x512_0_2_3 T))
    shapeCasts_S8x1x512x512_S8x1x512x512x1

/-- Whether that class exists. -/
def inRange (T : IVec S8x512x512 32) : IVec S8x1x512x512 1 :=
  Host.reduce IntOp.andi
    (andi (cmpi .sge (place T) (broadcastInDim S8x1x512x512x1 ![] bcast_S_S8x1x512x512x1 (constantI S_ 32 0#32)))
      (cmpi .sle (place T) (broadcastInDim S8x1x512x512x1 ![0, 1, 2, 3, 4] bcast_S1x1x1x1x1_S8x1x512x512x1_0_1_2_3_4 (broadcastInDim S1x1x1x1x1 ![4] bcast_S1_S1x1x1x1x1_4 (constantI S1 32 18#32)))))
    (constantI S_ 1 1#1) reducesTo_S8x1x512x512x1_S8x1x512x512_d4 h_S_

/-- The cross entropy of every pixel. -/
def crossEntropy (X : FVec F S8x19x512x512 .f32) (T : IVec S8x512x512 32) : FVec F S8x512x512 .f32 :=
  Host.negf (shapeCast S8x512x512
    (select (inRange T) (Host.gather gather_S8x19x512x512_S8x1x512x512x1_S8x1x512x512_n_1_023_023_1_4_1111 (logp X) (place T))
      (broadcastInDim S8x1x512x512 ![] bcast_S_S8x1x512x512 (constant S_ .f32 0x7FC00000#32)))
    shapeCasts_S8x1x512x512_S8x512x512)

/-- The weight of every pixel's class. -/
def pixelWeight (X : FVec F S8x19x512x512 .f32) (T : IVec S8x512x512 32) : FVec F S8x512x512 .f32 :=
  Host.gather gather_S19_S8x512x512x1_S8x512x512_n_0_n_n_0_3_1 (weight X T)
    (broadcastInDim S8x512x512x1 ![0, 1, 2] bcast_S8x512x512_S8x512x512x1_0_1_2
      (select (cmpi .slt T (broadcastInDim S8x512x512 ![] bcast_S_S8x512x512 (constantI S_ 32 0#32)))
        (addi T (broadcastInDim S8x512x512 ![] bcast_S_S8x512x512 (constantI S_ 32 19#32))) T))

/-- The mean of the weighted cross entropies. -/
def loss (X : FVec F S8x19x512x512 .f32) (T : IVec S8x512x512 32) : FVec F S_ .f32 :=
  Host.divf (Host.reduceAdd (mulf (pixelWeight X T) (crossEntropy X T)) (constant S_ .f32 0x00000000#32) reducesTo_S8x512x512_S_d0_1_2 h_S_)
    (constant S_ .f32 0x4A000000#32)

/-! ## The run -/

/-- The reference's operations, in order; a called function's stand in its call's place. -/
abbrev ops : List (HloOp τ sig (Elt F)) :=
  [ TRef.nullary (TRef.of (T := ⟨S8x19x512x512, .i32⟩) main_call0_v0) (iotaInDim S8x19x512x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .f32⟩) main_call0_v1_0) (fun x y u v j => (Host.argReduce reducer_argmax_f32_i32 x y u v reducesTo_S8x19x512x512_S8x512x512_d1 h_S_ j).1),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .i32⟩) main_v0) (fun x y u v j => (Host.argReduce reducer_argmax_f32_i32 x y u v reducesTo_S8x19x512x512_S8x512x512_d1 h_S_ j).2),
    binary main_v0 main_arg1 main_v1 (cmpi .ne : (⟨S8x512x512, .i32⟩ : BufTy).Contents (Elt F) → (⟨S8x512x512, .i32⟩ : BufTy).Contents (Elt F) → (⟨S8x512x512, .i1⟩ : BufTy).Contents (Elt F)),
    reshape main_v1 main_v2 (rfl : (.i1 : EltTy) = .i1) shapeCasts_S8x512x512_S2097152,
    reshape main_arg1 main_v3 (rfl : (.i32 : EltTy) = .i32) shapeCasts_S8x512x512_S2097152,
    nullary main_c (constantI S_ 32 0#32),
    unary main_c main_v4 (broadcastInDim S19 ![] bcast_S_S19 : (⟨S_, .i32⟩ : BufTy).Contents (Elt F) → (⟨S19, .i32⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v3) (TRef.of (T := ⟨S2097152, .i32⟩) main_v5) maxsi,
    nullary main_c_1 (constantI S_ 32 0#32),
    unary main_c_1 main_v6 (broadcastInDim S2097152 ![] bcast_S_S2097152 : (⟨S_, .i32⟩ : BufTy).Contents (Elt F) → (⟨S2097152, .i32⟩ : BufTy).Contents (Elt F)),
    binary main_v5 main_v6 main_v7 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 19#32),
    unary main_c_2 main_v8 (broadcastInDim S2097152 ![] bcast_S_S2097152 : (⟨S_, .i32⟩ : BufTy).Contents (Elt F) → (⟨S2097152, .i32⟩ : BufTy).Contents (Elt F)),
    binary main_v5 main_v8 main_v9 (addi : (⟨S2097152, .i32⟩ : BufTy).Contents (Elt F) → (⟨S2097152, .i32⟩ : BufTy).Contents (Elt F) → (⟨S2097152, .i32⟩ : BufTy).Contents (Elt F)),
    ternary main_v7 main_v9 main_v5 main_v10 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v10 main_v11 (broadcastInDim S2097152x1 ![0] bcast_S2097152_S2097152x1_0 : (⟨S2097152, .i32⟩ : BufTy).Contents (Elt F) → (⟨S2097152x1, .i32⟩ : BufTy).Contents (Elt F)),
    nullary main_c_3 (constantI S_ 32 1#32),
    unary main_c_3 main_v12 (broadcastInDim S2097152 ![] bcast_S_S2097152 : (⟨S_, .i32⟩ : BufTy).Contents (Elt F) → (⟨S2097152, .i32⟩ : BufTy).Contents (Elt F)),
    ternary main_v4 main_v11 main_v12 main_v13 ((fun x i u => Host.scatter scatter_S19_S2097152x1_S2097152_n_0_0_1 IntOp.addi x i u) : (⟨S19, .i32⟩ : BufTy).Contents (Elt F) → (⟨S2097152x1, .i32⟩ : BufTy).Contents (Elt F) → (⟨S2097152, .i32⟩ : BufTy).Contents (Elt F) → (⟨S19, .i32⟩ : BufTy).Contents (Elt F)),
    nullary main_c_4 (constantI S_ 32 0#32),
    unary main_c_4 main_v14 (broadcastInDim S19 ![] bcast_S_S19 : (⟨S_, .i32⟩ : BufTy).Contents (Elt F) → (⟨S19, .i32⟩ : BufTy).Contents (Elt F)),
    binary main_v13 main_v14 main_v15 (cmpi .sgt : (⟨S19, .i32⟩ : BufTy).Contents (Elt F) → (⟨S19, .i32⟩ : BufTy).Contents (Elt F) → (⟨S19, .i1⟩ : BufTy).Contents (Elt F)),
    nullary main_c_5 (constantI S_ 32 1#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S19, .i32⟩) main_call2_v1) (broadcastInDim S19 ![] bcast_S_S19),
    TRef.ternary (TRef.of (T := ⟨S19, .i1⟩) main_v15) (TRef.of (T := ⟨S19, .i32⟩) main_v13) (TRef.of (T := ⟨S19, .i32⟩) main_call2_v1) (TRef.of (T := ⟨S19, .i32⟩) main_v16) select,
    unary main_v16 main_v17 (sitofp .f32 : (⟨S19, .i32⟩ : BufTy).Contents (Elt F) → (⟨S19, .f32⟩ : BufTy).Contents (Elt F)),
    unary main_v2 main_v18 (uitofp .f32 : (⟨S2097152, .i1⟩ : BufTy).Contents (Elt F) → (⟨S2097152, .f32⟩ : BufTy).Contents (Elt F)),
    nullary main_cst (constant S_ .f32 0x00000000#32),
    unary main_cst main_v19 (broadcastInDim S19 ![] bcast_S_S19 : (⟨S_, .f32⟩ : BufTy).Contents (Elt F) → (⟨S19, .f32⟩ : BufTy).Contents (Elt F)),
    nullary main_c_6 (constantI S_ 32 0#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v3) (TRef.of (T := ⟨S2097152, .i32⟩) main_v20) maxsi,
    nullary main_c_7 (constantI S_ 32 0#32),
    unary main_c_7 main_v21 (broadcastInDim S2097152 ![] bcast_S_S2097152 : (⟨S_, .i32⟩ : BufTy).Contents (Elt F) → (⟨S2097152, .i32⟩ : BufTy).Contents (Elt F)),
    binary main_v20 main_v21 main_v22 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 19#32),
    unary main_c_8 main_v23 (broadcastInDim S2097152 ![] bcast_S_S2097152 : (⟨S_, .i32⟩ : BufTy).Contents (Elt F) → (⟨S2097152, .i32⟩ : BufTy).Contents (Elt F)),
    binary main_v20 main_v23 main_v24 (addi : (⟨S2097152, .i32⟩ : BufTy).Contents (Elt F) → (⟨S2097152, .i32⟩ : BufTy).Contents (Elt F) → (⟨S2097152, .i32⟩ : BufTy).Contents (Elt F)),
    ternary main_v22 main_v24 main_v20 main_v25 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v25 main_v26 (broadcastInDim S2097152x1 ![0] bcast_S2097152_S2097152x1_0 : (⟨S2097152, .i32⟩ : BufTy).Contents (Elt F) → (⟨S2097152x1, .i32⟩ : BufTy).Contents (Elt F)),
    ternary main_v19 main_v26 main_v18 main_v27 ((fun x i u => Host.scatterAdd scatter_S19_S2097152x1_S2097152_n_0_0_1 x i u) : (⟨S19, .f32⟩ : BufTy).Contents (Elt F) → (⟨S2097152x1, .i32⟩ : BufTy).Contents (Elt F) → (⟨S2097152, .f32⟩ : BufTy).Contents (Elt F) → (⟨S19, .f32⟩ : BufTy).Contents (Elt F)),
    nullary main_cst_9 (constant S_ .f32 0x00000000#32),
    unary main_cst_9 main_v28 (broadcastInDim S19 ![] bcast_S_S19 : (⟨S_, .f32⟩ : BufTy).Contents (Elt F) → (⟨S19, .f32⟩ : BufTy).Contents (Elt F)),
    binary main_v27 main_v28 main_v29 (cmpf .ogt : (⟨S19, .f32⟩ : BufTy).Contents (Elt F) → (⟨S19, .f32⟩ : BufTy).Contents (Elt F) → (⟨S19, .i1⟩ : BufTy).Contents (Elt F)),
    nullary main_cst_10 (constant S_ .f32 0x3F800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S19, .f32⟩) main_call4_v1) (broadcastInDim S19 ![] bcast_S_S19),
    TRef.ternary (TRef.of (T := ⟨S19, .i1⟩) main_v29) (TRef.of (T := ⟨S19, .f32⟩) main_v27) (TRef.of (T := ⟨S19, .f32⟩) main_call4_v1) (TRef.of (T := ⟨S19, .f32⟩) main_v30) select,
    binary main_v30 main_v17 main_v31 (Host.divf : (⟨S19, .f32⟩ : BufTy).Contents (Elt F) → (⟨S19, .f32⟩ : BufTy).Contents (Elt F) → (⟨S19, .f32⟩ : BufTy).Contents (Elt F)),
    TRef.nullary (TRef.of (T := ⟨S_, .f32⟩) main_call5_cst) (constant S_ .f32 0xFF800000#32),
    TRef.binary (TRef.of (T := ⟨S8x19x512x512, .f32⟩) main_arg0) (TRef.of (T := ⟨S_, .f32⟩) main_call5_cst) (TRef.of (T := ⟨S8x512x512, .f32⟩) main_call5_v0) (fun x v => Host.reduce FloatOps.maximumf x v reducesTo_S8x19x512x512_S8x512x512_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S8x512x512, .f32⟩) main_call5_v1) (broadcastInDim S8x512x512 ![] bcast_S_S8x512x512),
    TRef.binary (TRef.of (T := ⟨S8x512x512, .f32⟩) main_call5_v1) (TRef.of (T := ⟨S8x512x512, .f32⟩) main_call5_v0) (TRef.of (T := ⟨S8x512x512, .f32⟩) main_call5_v2) maximumf,
    TRef.unary (TRef.of (T := ⟨S8x512x512, .f32⟩) main_call5_v2) (TRef.of (T := ⟨S8x1x512x512, .f32⟩) main_call5_v3) (broadcastInDim S8x1x512x512 ![0, 2, 3] bcast_S8x512x512_S8x1x512x512_0_2_3),
    TRef.unary (TRef.of (T := ⟨S8x1x512x512, .f32⟩) main_call5_v3) (TRef.of (T := ⟨S8x19x512x512, .f32⟩) main_call5_v4) (broadcastInDim S8x19x512x512 ![0, 1, 2, 3] bcast_S8x1x512x512_S8x19x512x512_0_1_2_3),
    TRef.binary (TRef.of (T := ⟨S8x19x512x512, .f32⟩) main_arg0) (TRef.of (T := ⟨S8x19x512x512, .f32⟩) main_call5_v4) (TRef.of (T := ⟨S8x19x512x512, .f32⟩) main_call5_v5) subf,
    TRef.unary (TRef.of (T := ⟨S8x19x512x512, .f32⟩) main_call5_v5) (TRef.of (T := ⟨S8x19x512x512, .f32⟩) main_call5_v6) Host.exp,
    TRef.nullary (TRef.of (T := ⟨S_, .f32⟩) main_call5_cst_1) (constant S_ .f32 0x00000000#32),
    TRef.binary (TRef.of (T := ⟨S8x19x512x512, .f32⟩) main_call5_v6) (TRef.of (T := ⟨S_, .f32⟩) main_call5_cst_1) (TRef.of (T := ⟨S8x512x512, .f32⟩) main_call5_v7) (fun x v => Host.reduceAdd x v reducesTo_S8x19x512x512_S8x512x512_d1 h_S_),
    TRef.unary (TRef.of (T := ⟨S8x512x512, .f32⟩) main_call5_v7) (TRef.of (T := ⟨S8x1x512x512, .f32⟩) main_call5_v8) (broadcastInDim S8x1x512x512 ![0, 2, 3] bcast_S8x512x512_S8x1x512x512_0_2_3),
    TRef.unary (TRef.of (T := ⟨S8x1x512x512, .f32⟩) main_call5_v8) (TRef.of (T := ⟨S8x1x512x512, .f32⟩) main_call5_v9) Host.log,
    TRef.unary (TRef.of (T := ⟨S8x1x512x512, .f32⟩) main_call5_v9) (TRef.of (T := ⟨S8x19x512x512, .f32⟩) main_call5_v10) (broadcastInDim S8x19x512x512 ![0, 1, 2, 3] bcast_S8x1x512x512_S8x19x512x512_0_1_2_3),
    TRef.binary (TRef.of (T := ⟨S8x19x512x512, .f32⟩) main_call5_v5) (TRef.of (T := ⟨S8x19x512x512, .f32⟩) main_call5_v10) (TRef.of (T := ⟨S8x19x512x512, .f32⟩) main_v32) subf,
    unary main_arg1 main_v33 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S8x1x512x512, .i32⟩) main_call6_v0) (broadcastInDim S8x1x512x512 ![] bcast_S_S8x1x512x512),
    TRef.binary (TRef.of (T := ⟨S8x1x512x512, .i32⟩) main_v33) (TRef.of (T := ⟨S8x1x512x512, .i32⟩) main_call6_v0) (TRef.of (T := ⟨S8x1x512x512, .i1⟩) main_call6_v1) (cmpi .slt),
    TRef.nullary (TRef.of (T := ⟨S_, .i32⟩) main_call6_c_0) (constantI S_ 32 19#32),
    TRef.unary (TRef.of (T := ⟨S_, .i32⟩) main_call6_c_0) (TRef.of (T := ⟨S8x1x512x512, .i32⟩) main_call6_v2) (broadcastInDim S8x1x512x512 ![] bcast_S_S8x1x512x512),
    TRef.binary (TRef.of (T := ⟨S8x1x512x512, .i32⟩) main_v33) (TRef.of (T := ⟨S8x1x512x512, .i32⟩) main_call6_v2) (TRef.of (T := ⟨S8x1x512x512, .i32⟩) main_call6_v3) addi,
    TRef.ternary (TRef.of (T := ⟨S8x1x512x512, .i1⟩) main_call6_v1) (TRef.of (T := ⟨S8x1x512x512, .i32⟩) main_call6_v3) (TRef.of (T := ⟨S8x1x512x512, .i32⟩) main_v33) (TRef.of (T := ⟨S8x1x512x512, .i32⟩) main_call6_v4) select,
    TRef.reshape (TRef.of (T := ⟨S8x1x512x512, .i32⟩) main_call6_v4) (TRef.of (T := ⟨S8x1x512x512x1, .i32⟩) main_call6_v5) (rfl : (.i32 : EltTy) = .i32) shapeCasts_S8x1x512x512_S8x1x512x512x1,
    TRef.nullary (TRef.of (T := ⟨S1, .i32⟩) main_call6_c_1) (constantI S1 32 18#32),
    TRef.nullary (TRef.of (T := ⟨S_, .i32⟩) main_call6_c_2) (constantI S_ 32 0#32),
    TRef.unary (TRef.of (T := ⟨S_, .i32⟩) main_call6_c_2) (TRef.of (T := ⟨S8x1x512x512x1, .i32⟩) main_call6_v6) (broadcastInDim S8x1x512x512x1 ![] bcast_S_S8x1x512x512x1),
    TRef.binary (TRef.of (T := ⟨S8x1x512x512x1, .i32⟩) main_call6_v5) (TRef.of (T := ⟨S8x1x512x512x1, .i32⟩) main_call6_v6) (TRef.of (T := ⟨S8x1x512x512x1, .i1⟩) main_call6_v7) (cmpi .sge),
    TRef.unary (TRef.of (T := ⟨S1, .i32⟩) main_call6_c_1) (TRef.of (T := ⟨S1x1x1x1x1, .i32⟩) main_call6_v8) (broadcastInDim S1x1x1x1x1 ![4] bcast_S1_S1x1x1x1x1_4),
    TRef.unary (TRef.of (T := ⟨S1x1x1x1x1, .i32⟩) main_call6_v8) (TRef.of (T := ⟨S8x1x512x512x1, .i32⟩) main_call6_v9) (broadcastInDim S8x1x512x512x1 ![0, 1, 2, 3, 4] bcast_S1x1x1x1x1_S8x1x512x512x1_0_1_2_3_4),
    TRef.binary (TRef.of (T := ⟨S8x1x512x512x1, .i32⟩) main_call6_v5) (TRef.of (T := ⟨S8x1x512x512x1, .i32⟩) main_call6_v9) (TRef.of (T := ⟨S8x1x512x512x1, .i1⟩) main_call6_v10) (cmpi .sle),
    TRef.binary (TRef.of (T := ⟨S8x1x512x512x1, .i1⟩) main_call6_v7) (TRef.of (T := ⟨S8x1x512x512x1, .i1⟩) main_call6_v10) (TRef.of (T := ⟨S8x1x512x512x1, .i1⟩) main_call6_v11) andi,
    TRef.nullary (TRef.of (T := ⟨S_, .i1⟩) main_call6_c_3) (constantI S_ 1 1#1),
    TRef.binary (TRef.of (T := ⟨S8x1x512x512x1, .i1⟩) main_call6_v11) (TRef.of (T := ⟨S_, .i1⟩) main_call6_c_3) (TRef.of (T := ⟨S8x1x512x512, .i1⟩) main_call6_v12) (fun x v => Host.reduce IntOp.andi x v reducesTo_S8x1x512x512x1_S8x1x512x512_d4 h_S_),
    TRef.binary (TRef.of (T := ⟨S8x19x512x512, .f32⟩) main_v32) (TRef.of (T := ⟨S8x1x512x512x1, .i32⟩) main_call6_v5) (TRef.of (T := ⟨S8x1x512x512, .f32⟩) main_call6_v13) (fun x i => Host.gather gather_S8x19x512x512_S8x1x512x512x1_S8x1x512x512_n_1_023_023_1_4_1111 x i),
    TRef.nullary (TRef.of (T := ⟨S_, .f32⟩) main_call6_cst) (constant S_ .f32 0x7FC00000#32),
    TRef.unary (TRef.of (T := ⟨S_, .f32⟩) main_call6_cst) (TRef.of (T := ⟨S8x1x512x512, .f32⟩) main_call6_v14) (broadcastInDim S8x1x512x512 ![] bcast_S_S8x1x512x512),
    TRef.ternary (TRef.of (T := ⟨S8x1x512x512, .i1⟩) main_call6_v12) (TRef.of (T := ⟨S8x1x512x512, .f32⟩) main_call6_v13) (TRef.of (T := ⟨S8x1x512x512, .f32⟩) main_call6_v14) (TRef.of (T := ⟨S8x1x512x512, .f32⟩) main_v34) select,
    reshape main_v34 main_v35 (rfl : (.f32 : EltTy) = .f32) shapeCasts_S8x1x512x512_S8x512x512,
    unary main_v35 main_v36 (Host.negf : (⟨S8x512x512, .f32⟩ : BufTy).Contents (Elt F) → (⟨S8x512x512, .f32⟩ : BufTy).Contents (Elt F)),
    nullary main_c_11 (constantI S_ 32 0#32),
    unary main_c_11 main_v37 (broadcastInDim S8x512x512 ![] bcast_S_S8x512x512 : (⟨S_, .i32⟩ : BufTy).Contents (Elt F) → (⟨S8x512x512, .i32⟩ : BufTy).Contents (Elt F)),
    binary main_arg1 main_v37 main_v38 (cmpi .slt : (⟨S8x512x512, .i32⟩ : BufTy).Contents (Elt F) → (⟨S8x512x512, .i32⟩ : BufTy).Contents (Elt F) → (⟨S8x512x512, .i1⟩ : BufTy).Contents (Elt F)),
    nullary main_c_12 (constantI S_ 32 19#32),
    unary main_c_12 main_v39 (broadcastInDim S8x512x512 ![] bcast_S_S8x512x512 : (⟨S_, .i32⟩ : BufTy).Contents (Elt F) → (⟨S8x512x512, .i32⟩ : BufTy).Contents (Elt F)),
    binary main_arg1 main_v39 main_v40 (addi : (⟨S8x512x512, .i32⟩ : BufTy).Contents (Elt F) → (⟨S8x512x512, .i32⟩ : BufTy).Contents (Elt F) → (⟨S8x512x512, .i32⟩ : BufTy).Contents (Elt F)),
    ternary main_v38 main_v40 main_arg1 main_v41 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    unary main_v41 main_v42 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    binary main_v31 main_v42 main_v43 ((fun x i => Host.gather gather_S19_S8x512x512x1_S8x512x512_n_0_n_n_0_3_1 x i) : (⟨S19, .f32⟩ : BufTy).Contents (Elt F) → (⟨S8x512x512x1, .i32⟩ : BufTy).Contents (Elt F) → (⟨S8x512x512, .f32⟩ : BufTy).Contents (Elt F)),
    binary main_v43 main_v36 main_v44 (mulf : (⟨S8x512x512, .f32⟩ : BufTy).Contents (Elt F) → (⟨S8x512x512, .f32⟩ : BufTy).Contents (Elt F) → (⟨S8x512x512, .f32⟩ : BufTy).Contents (Elt F)),
    nullary main_cst_13 (constant S_ .f32 0x00000000#32),
    binary main_v44 main_cst_13 main_v45 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_14 (constant S_ .f32 0x4A000000#32),
    binary main_v45 main_cst_14 main_v46 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., binary_bufs_sub .., reshape_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub ..⟩

set_option maxRecDepth 8192 in
set_option maxHeartbeats 47200000 in
/-- From any memory with zero counters the reference ends with its result at `loss` of the arguments, which it leaves as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (by simp only [ops, TRef.binary, TRef.nullary, TRef.reshape, TRef.ternary, TRef.quaternary, TRef.unary, TRef.toBuf, TRef.ofBuf, cast_eq]; after_results_simp <;> rfl),
      (h c main_arg0).trans (by simp only [ops, TRef.binary, TRef.nullary, TRef.reshape, TRef.ternary, TRef.quaternary, TRef.unary, TRef.toBuf, TRef.ofBuf, cast_eq]; after_results_simp <;> rfl),
      (h c main_arg1).trans (by simp only [ops, TRef.binary, TRef.nullary, TRef.reshape, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.KStrip.lean ====
module

public import proofs.«01_k».proof.Proof.Gen.KernelIdeal.Frame
import all proofs.«01_k».proof.Proof.Gen.KernelIdeal.Frame.RunA
import all proofs.«01_k».proof.Proof.Gen.KernelIdeal.Frame.RunB
import all proofs.«01_k».proof.Proof.Gen.KernelIdeal.Frame.RunC

/-! What one strip of sixteen rows computes, said once for every strip: eight rows at a time, the scaled logits, their
    running maximum, the running sum of their exponentials and the entry the target picks; and that the pieces each of the
    three kinds of grid point stores in its three tiles are these. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-! ## Eight rows -/

/-- A class's logits, scaled. -/
def scaled (x : Vec F S1x1x8x512 .f32) : FVec F S8x512 .f32 :=
  mulf (shapeCast S8x512 x shapeCasts_S1x1x8x512_S8x512) (broadcast S8x512 (Named.named κ "log2_e" 0x3FB8AA3B#32))

/-- The targets of eight rows. -/
def tgt (t : Vec F S1x8x512 .i32) : IVec S8x512 32 := shapeCast S8x512 t shapeCasts_S1x8x512_S8x512

/-- The running maximum of the scaled logits. -/
def top (x : Fin 19 → Vec F S1x1x8x512 .f32) : (n : ℕ) → n < 19 → FVec F S8x512 .f32
  | 0, h => scaled (x ⟨0, h⟩)
  | n + 1, h => maximumf (top x n (Nat.lt_of_succ_lt h)) (scaled (x ⟨n + 1, h⟩))

/-- The running sum of the exponentials. -/
def total (x : Fin 19 → Vec F S1x1x8x512 .f32) : (n : ℕ) → n < 19 → FVec F S8x512 .f32
  | 0, h => exp2 (scaled (x ⟨0, h⟩))
  | n + 1, h => addf (total x n (Nat.lt_of_succ_lt h)) (exp2 (scaled (x ⟨n + 1, h⟩)))

/-- The entry picked by the target, among the classes seen. -/
def picked (x : Fin 19 → Vec F S1x1x8x512 .f32) (t : Vec F S1x8x512 .i32) : (n : ℕ) → n < 19 → FVec F S8x512 .f32
  | 0, h => scaled (x ⟨0, h⟩)
  | n + 1, h => select (cmpi .eq (tgt t) (broadcast S8x512 (BitVec.ofNat 32 (n + 1)))) (scaled (x ⟨n + 1, h⟩)) (picked x t n (Nat.lt_of_succ_lt h))

/-- The cross entropies of eight rows. -/
def ce8 (x : Fin 19 → Vec F S1x1x8x512 .f32) (t : Vec F S1x8x512 .i32) : FVec F S8x512 .f32 :=
  mulf (subf (mulf (log (total x 18 (by decide))) (broadcast S8x512 (Named.named κ "log2_e" 0x3FB8AA3B#32))) (picked x t 18 (by decide)))
    (broadcast S8x512 (Named.named κ "ln_2" 0x3F317218#32))

/-- One where the target's entry is below the maximum. -/
def mis8 (x : Fin 19 → Vec F S1x1x8x512 .f32) (t : Vec F S1x8x512 .i32) : FVec F S8x512 .f32 :=
  select (cmpf .olt (picked x t 18 (by decide)) (top x 18 (by decide)))
    (broadcast S8x512 (Scalar.ofBits .f32 0x3F800000#32)) (broadcast S8x512 (Scalar.ofBits .f32 0x00000000#32))

/-! ## The strips' loads and stores -/

section
variable (arg2 : Memref sig .tc .vmem S1x19x256x512 .f32) (harg2 : arg2.IsWhole) (arg3 : Memref sig .tc .vmem S1x256x512 .i32) (harg3 : arg3.IsWhole)
  (x0 : Vec F S1x19x256x512 .f32) (x1 : Vec F S1x256x512 .i32)

theorem inbX (n : ℕ) (hn : n < 32) (c : Fin 19) : ∀ a, (![0, c.val, 8 * n, 0] : Fin 4 → ℕ) a + S1x1x8x512.size a ≤ S1x19x256x512.size a := by
  have := c.isLt
  intro a; fin_cases a
  · show 0 + 1 ≤ 1; omega
  · show c.val + 1 ≤ 19; omega
  · show 8 * n + 8 ≤ 256; omega
  · show 0 + 512 ≤ 512; omega

theorem inbT (n : ℕ) (hn : n < 32) : ∀ a, (![0, 8 * n, 0] : Fin 3 → ℕ) a + S1x8x512.size a ≤ S1x256x512.size a := by
  intro a; fin_cases a
  · show 0 + 1 ≤ 1; omega
  · show 8 * n + 8 ≤ 256; omega
  · show 0 + 512 ≤ 512; omega

theorem inbS (k : Fin 16) : ∀ a, (![16 * (15 - k.val), 0] : Fin 2 → ℕ) a + S16x512.size a ≤ S256x512.size a := by
  have := k.isLt
  intro a; fin_cases a
  · show 16 * (15 - k.val) + 16 ≤ 256; omega
  · show 0 + 512 ≤ 512; omega

/-- Eight rows of logits, one class each. -/
def rowsX (n : ℕ) (hn : n < 32) (c : Fin 19) : Vec F S1x1x8x512 .f32 :=
  View.readAt (Elt F) arg2.view (Rect.unit (s := S1x19x256x512) ![0, c.val, 8 * n, 0] S1x1x8x512.size (inbX n hn c)).toLoadRect (harg2.unread x0)

/-- Eight rows of targets. -/
def rowsT (n : ℕ) (hn : n < 32) : Vec F S1x8x512 .i32 :=
  View.readAt (Elt F) arg3.view (Rect.unit (s := S1x256x512) ![0, 8 * n, 0] S1x8x512.size (inbT n hn)).toLoadRect (harg3.unread x1)

/-- The cross entropies of a strip. -/
def ceStrip (i : ℕ) (hi : i < 16) : FVec F S16x512 .bf16 :=
  shapeCast S16x512 (truncf .bf16 (concatenate S16x512 0
    [⟨S8x512, ce8 (rowsX arg2 harg2 x0 (2 * i) (by omega)) (rowsT arg3 harg3 x1 (2 * i) (by omega))⟩,
     ⟨S8x512, ce8 (rowsX arg2 harg2 x0 (2 * i + 1) (by omega)) (rowsT arg3 harg3 x1 (2 * i + 1) (by omega))⟩] concatenates_S8x512_S8x512_S16x512_d0) bitsLt_bf16_f32)
    shapeCasts_S16x512_S16x512

/-- The targets of a strip. -/
def tStrip (i : ℕ) (hi : i < 16) : FVec F S16x512 .bf16 :=
  shapeCast S16x512 (sitofp .bf16 (concatenate S16x512 0
    [⟨S8x512, tgt (rowsT arg3 harg3 x1 (2 * i) (by omega))⟩, ⟨S8x512, tgt (rowsT arg3 harg3 x1 (2 * i + 1) (by omega))⟩] concatenates_S8x512_S8x512_S16x512_d0))
    shapeCasts_S16x512_S16x512

/-- The misclassified pixels of a strip. -/
def misStrip (i : ℕ) (hi : i < 16) : FVec F S16x512 .bf16 :=
  shapeCast S16x512 (truncf .bf16 (concatenate S16x512 0
    [⟨S8x512, mis8 (rowsX arg2 harg2 x0 (2 * i) (by omega)) (rowsT arg3 harg3 x1 (2 * i) (by omega))⟩,
     ⟨S8x512, mis8 (rowsX arg2 harg2 x0 (2 * i + 1) (by omega)) (rowsT arg3 harg3 x1 (2 * i + 1) (by omega))⟩] concatenates_S8x512_S8x512_S16x512_d0) bitsLt_bf16_f32)
    shapeCasts_S16x512_S16x512

/-- A tile's sixteen strips, last first. -/
def strips (f : (i : ℕ) → i < 16 → FVec F S16x512 .bf16) : List (View.Piece (Elt F) S256x512 .bf16) :=
  List.ofFn fun k : Fin 16 => ⟨Rect.unit (s := S256x512) ![16 * (15 - k.val), 0] S16x512.size (inbS k), f (15 - k.val) (by omega)⟩

variable (c : Dev nD)

theorem ceB : kernelRun0_B.sl.HS3_16 c arg2 harg2 arg3 harg3 x0 x1 = strips (ceStrip arg2 harg2 arg3 harg3 x0 x1) := by sl_kernel_rfl
theorem tB : kernelRun0_B.sl.HS4_16 c arg3 harg3 x1 = strips (tStrip arg3 harg3 x1) := by sl_kernel_rfl
theorem misB : kernelRun0_B.sl.HS5_16 c arg2 harg2 arg3 harg3 x0 x1 = strips (misStrip arg2 harg2 arg3 harg3 x0 x1) := by sl_kernel_rfl

theorem ceA : kernelRun0_A.sl.HS3_16 c arg2 harg2 arg3 harg3 x0 x1 = strips (ceStrip arg2 harg2 arg3 harg3 x0 x1) := by sl_kernel_rfl
theorem tA : kernelRun0_A.sl.HS4_16 c arg3 harg3 x1 = strips (tStrip arg3 harg3 x1) := by sl_kernel_rfl
theorem misA : kernelRun0_A.sl.HS5_16 c arg2 harg2 arg3 harg3 x0 x1 = strips (misStrip arg2 harg2 arg3 harg3 x0 x1) := by sl_kernel_rfl

theorem ceC : kernelRun0_C.sl.HS3_16 c arg2 harg2 arg3 harg3 x0 x1 = strips (ceStrip arg2 harg2 arg3 harg3 x0 x1) := by sl_kernel_rfl
theorem tC : kernelRun0_C.sl.HS4_16 c arg3 harg3 x1 = strips (tStrip arg3 harg3 x1) := by sl_kernel_rfl
theorem misC : kernelRun0_C.sl.HS5_16 c arg2 harg2 arg3 harg3 x0 x1 = strips (misStrip arg2 harg2 arg3 harg3 x0 x1) := by sl_kernel_rfl

end

end Cert.KernelIdeal.Hand

end
-- ==== Proof.KAcc.lean ====
module

public import proofs.«01_k».proof.Proof.KStrip
public import Idealize.ShloMosaic.Lib.Pipeline.ValueKit
import all proofs.«01_k».proof.Proof.Gen.KernelIdeal.Frame.RunA
import all proofs.«01_k».proof.Proof.Gen.KernelIdeal.Frame.RunB
import all proofs.«01_k».proof.Proof.Gen.KernelIdeal.Frame.RunC

/-! What a grid point stores in its three accumulators: a row for every class, the row before plus the column sums of a
    tile. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-! ## One class's row -/

/-- The class numbers as the kernel writes them. -/
def word : ℕ → BitVec 16
  | 0 => 0x0000#16 | 1 => 0x3F80#16 | 2 => 0x4000#16 | 3 => 0x4040#16 | 4 => 0x4080#16 | 5 => 0x40A0#16
  | 6 => 0x40C0#16 | 7 => 0x40E0#16 | 8 => 0x4100#16 | 9 => 0x4110#16 | 10 => 0x4120#16 | 11 => 0x4130#16
  | 12 => 0x4140#16 | 13 => 0x4150#16 | 14 => 0x4160#16 | 15 => 0x4170#16 | 16 => 0x4180#16 | _ => 0x4188#16

/-- The pixels of class `n`. -/
def isClass (t : FVec F S256x512 .bf16) (n : ℕ) : IVec S256x512 1 :=
  cmpf .oeq t (broadcast S256x512 (Scalar.ofBits .bf16 (word n)))

/-- A tile on the pixels of class `n`, nought elsewhere. -/
def only (t x : FVec F S256x512 .bf16) (n : ℕ) : FVec F S256x512 .bf16 :=
  select (isClass t n) x (broadcast S256x512 (Scalar.ofBits .bf16 0x0000#16))

/-- A tile's column sums. -/
def cols (x : FVec F S256x512 .bf16) : FVec F S512 .bf16 :=
  multiReduction .add [0] S512 x 0x0000#16 reduces_S256x512_S512 (.inr rfl) rfl

/-- The row of cross entropies; the last class takes the whole tile. -/
def rowS (ce t : FVec F S256x512 .bf16) : ℕ → Vec F S1x512 .f32 → Vec F S1x512 .f32
  | 18, v => shapeCast S1x512 (addf (shapeCast S512 v shapeCasts_S1x512_S512) (extf .f32 (cols ce) bitsLt_bf16_f32)) shapeCasts_S512_S1x512
  | n, v => shapeCast S1x512 (addf (shapeCast S512 v shapeCasts_S1x512_S512) (extf .f32 (cols (only t ce n)) bitsLt_bf16_f32)) shapeCasts_S512_S1x512

/-- The row of counts. -/
def rowG (t : FVec F S256x512 .bf16) : ℕ → Vec F S1x512 .i32 → Vec F S1x512 .i32
  | 18, v => shapeCast S1x512 (addi (shapeCast S512 v shapeCasts_S1x512_S512) (broadcast S512 256#32)) shapeCasts_S512_S1x512
  | n, v => shapeCast S1x512 (addi (shapeCast S512 v shapeCasts_S1x512_S512)
      (fptosi 32 (cols (only t (broadcast S256x512 (Scalar.ofBits .bf16 0x3F80#16)) n)))) shapeCasts_S512_S1x512

/-- The row of misclassified pixels. -/
def rowM (mis t : FVec F S256x512 .bf16) : ℕ → Vec F S1x512 .i32 → Vec F S1x512 .i32
  | 18, v => shapeCast S1x512 (addi (shapeCast S512 v shapeCasts_S1x512_S512) (fptosi 32 (cols mis))) shapeCasts_S512_S1x512
  | n, v => shapeCast S1x512 (addi (shapeCast S512 v shapeCasts_S1x512_S512) (fptosi 32 (cols (only t mis n)))) shapeCasts_S512_S1x512

/-! ## The rows stored one after the other -/

section
variable {e : EltTy}

theorem inbR (n : ℕ) (h : n < 19) : ∀ a, (![n, 0] : Fin 2 → ℕ) a + S1x512.size a ≤ S19x512.size a := by
  intro a; fin_cases a
  · show n + 1 ≤ 19; omega
  · show 0 + 512 ≤ 512; omega

/-- The box of row `n`. -/
abbrev rowR (n : ℕ) (h : n < 19) : Rect S19x512 := Rect.unit (s := S19x512) ![n, 0] S1x512.size (inbR n h)

/-- Rows stored from the contents before: `g n` of row `n`. -/
def stackB (arg : Memref sig .tc .vmem S19x512 e) (harg : arg.IsWhole) (xs : Vec F S19x512 e) (g : ℕ → Vec F S1x512 e → Vec F S1x512 e) :
    (n : ℕ) → n ≤ 19 → List (View.Piece (Elt F) S19x512 e)
  | 0, _ => []
  | n + 1, h => ⟨rowR n h, g n (View.readAt (Elt F) arg.view (rowR n h).toLoadRect (harg.unread xs))⟩ :: stackB arg harg xs g n (Nat.le_of_succ_le h)

/-- One more row stored after `L`, read from what `L` left. -/
def push (arg : Memref sig .tc .vmem S19x512 e) (g : ℕ → Vec F S1x512 e → Vec F S1x512 e) (n : ℕ) (h : n < 19)
    (L : List (View.Piece (Elt F) S19x512 e)) : List (View.Piece (Elt F) S19x512 e) :=
  ⟨rowR n h, g n (arg.view.readCov L (rowR n h).toLoadRect)⟩ :: L

/-- Rows `n`, `n + 1`, … stored after `L`, `k` of them. -/
def pushes (arg : Memref sig .tc .vmem S19x512 e) (g : ℕ → Vec F S1x512 e → Vec F S1x512 e) :
    (k n : ℕ) → n + k ≤ 19 → List (View.Piece (Elt F) S19x512 e) → List (View.Piece (Elt F) S19x512 e)
  | 0, _, _, L => L
  | k + 1, n, h, L => pushes arg g k (n + 1) (by omega) (push arg g n (by omega) L)

/-- A fill of the whole. -/
def filled (z : Vec F S19x512 e) : List (View.Piece (Elt F) S19x512 e) :=
  [⟨Rect.unit (s := S19x512) ![0, 0] S19x512.size inb_S19x512_S19x512_0_0, z⟩]

/-- A row at a time, the new contents. -/
def update (g : ℕ → Vec F S1x512 e → Vec F S1x512 e) (xs : Vec F S19x512 e) : Vec F S19x512 e := fun j =>
  g (j 0).val (View.ld xs (rowR (j 0).val (j 0).isLt)) (ix2 0 (j 1))

end

/-! ## The pieces of every kind of point -/

section
variable (c : Dev nD) (i : grid0.Coords) (arg2 : Memref sig .tc .vmem S1x19x256x512 .f32) (harg2 : arg2.IsWhole)
  (arg3 : Memref sig .tc .vmem S1x256x512 .i32) (harg3 : arg3.IsWhole) (arg4 : Memref sig .tc .vmem S8x128 .f32) (harg4 : arg4.IsWhole)
  (arg5 : Memref sig .tc .vmem S19x512 .f32) (harg5 : arg5.IsWhole) (arg6 : Memref sig .tc .vmem S19x512 .i32) (harg6 : arg6.IsWhole)
  (arg7 : Memref sig .tc .vmem S19x512 .i32) (harg7 : arg7.IsWhole) (arg8 : Memref sig .tc .vmem S256x512 .bf16) (harg8 : arg8.IsWhole)
  (arg9 : Memref sig .tc .vmem S256x512 .bf16) (harg9 : arg9.IsWhole) (arg10 : Memref sig .tc .vmem S256x512 .bf16) (harg10 : arg10.IsWhole)
  (x0 : Vec F S1x19x256x512 .f32) (x1 : Vec F S1x256x512 .i32)

/-- A tile read back. -/
def tile (arg : Memref sig .tc .vmem S256x512 .bf16) (f : (i : ℕ) → i < 16 → FVec F S16x512 .bf16) : FVec F S256x512 .bf16 :=
  arg.view.readCov (strips f) (Rect.unit (s := S256x512) ![0, 0] S256x512.size inb_S256x512_S256x512_0_0).toLoadRect

section
variable (hc0 : ¬cond0_0 i) (hc1 : ¬cond0_1 i) (xs0 : Vec F S19x512 .f32) (xs1 : Vec F S19x512 .i32) (xs2 : Vec F S19x512 .i32)

theorem tile_ceB : kernelRun0_B.sl.v7302 c arg2 harg2 arg3 harg3 arg8 x0 x1 = tile arg8 (ceStrip arg2 harg2 arg3 harg3 x0 x1) := by
  unfold kernelRun0_B.sl.v7302 tile; rw [ceB]
theorem tile_tB : kernelRun0_B.sl.v7301 c arg3 harg3 arg9 x1 = tile arg9 (tStrip arg3 harg3 x1) := by
  unfold kernelRun0_B.sl.v7301 tile; rw [tB]
theorem tile_misB : kernelRun0_B.sl.v7303 c arg2 harg2 arg3 harg3 arg10 x0 x1 = tile arg10 (misStrip arg2 harg2 arg3 harg3 x0 x1) := by
  unfold kernelRun0_B.sl.v7303 tile; rw [misB]

theorem accB_S : (kernelRun0_B c i arg2 harg2 arg3 harg3 arg4 harg4 arg5 harg5 arg6 harg6 arg7 harg7 arg8 harg8 arg9 harg9 arg10 harg10 hc0 hc1 x0 x1 xs0 xs1 xs2).2.1
    = stackB arg5 harg5 xs0 (rowS (kernelRun0_B.sl.v7302 c arg2 harg2 arg3 harg3 arg8 x0 x1) (kernelRun0_B.sl.v7301 c arg3 harg3 arg9 x1)) 19 le_rfl := by
  unfold kernelRun0_B; sl_kernel_rfl
theorem accB_G : (kernelRun0_B c i arg2 harg2 arg3 harg3 arg4 harg4 arg5 harg5 arg6 harg6 arg7 harg7 arg8 harg8 arg9 harg9 arg10 harg10 hc0 hc1 x0 x1 xs0 xs1 xs2).2.2.1
    = stackB arg6 harg6 xs1 (rowG (kernelRun0_B.sl.v7301 c arg3 harg3 arg9 x1)) 19 le_rfl := by
  unfold kernelRun0_B; sl_kernel_rfl
theorem accB_M : (kernelRun0_B c i arg2 harg2 arg3 harg3 arg4 harg4 arg5 harg5 arg6 harg6 arg7 harg7 arg8 harg8 arg9 harg9 arg10 harg10 hc0 hc1 x0 x1 xs0 xs1 xs2).2.2.2.1
    = stackB arg7 harg7 xs2 (rowM (kernelRun0_B.sl.v7303 c arg2 harg2 arg3 harg3 arg10 x0 x1) (kernelRun0_B.sl.v7301 c arg3 harg3 arg9 x1)) 19 le_rfl := by
  unfold kernelRun0_B; sl_kernel_rfl
end

end

end Cert.KernelIdeal.Hand

end
-- ==== Proof.KAccA.lean ====
module

public import proofs.«01_k».proof.Proof.KAcc
public import Idealize.ShloMosaic.Lib.Pipeline.ValueKit
import all proofs.«01_k».proof.Proof.Gen.KernelIdeal.Frame.RunA
import all proofs.«01_k».proof.Proof.Gen.KernelIdeal.Frame.RunB
import all proofs.«01_k».proof.Proof.Gen.KernelIdeal.Frame.RunC

/-! What a grid point stores in its three accumulators: a row for every class, the row before plus the column sums of a
    tile. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-! ## The pieces of every kind of point -/

section
variable (c : Dev nD) (i : grid0.Coords) (arg2 : Memref sig .tc .vmem S1x19x256x512 .f32) (harg2 : arg2.IsWhole)
  (arg3 : Memref sig .tc .vmem S1x256x512 .i32) (harg3 : arg3.IsWhole) (arg4 : Memref sig .tc .vmem S8x128 .f32) (harg4 : arg4.IsWhole)
  (arg5 : Memref sig .tc .vmem S19x512 .f32) (harg5 : arg5.IsWhole) (arg6 : Memref sig .tc .vmem S19x512 .i32) (harg6 : arg6.IsWhole)
  (arg7 : Memref sig .tc .vmem S19x512 .i32) (harg7 : arg7.IsWhole) (arg8 : Memref sig .tc .vmem S256x512 .bf16) (harg8 : arg8.IsWhole)
  (arg9 : Memref sig .tc .vmem S256x512 .bf16) (harg9 : arg9.IsWhole) (arg10 : Memref sig .tc .vmem S256x512 .bf16) (harg10 : arg10.IsWhole)
  (x0 : Vec F S1x19x256x512 .f32) (x1 : Vec F S1x256x512 .i32)

section
variable (hc0 : cond0_0 i) (hc1 : ¬cond0_1 i)

theorem tile_ceA : kernelRun0_A.sl.v7302 c arg2 harg2 arg3 harg3 arg8 x0 x1 = tile arg8 (ceStrip arg2 harg2 arg3 harg3 x0 x1) := by
  unfold kernelRun0_A.sl.v7302 tile; rw [ceA]
theorem tile_tA : kernelRun0_A.sl.v7301 c arg3 harg3 arg9 x1 = tile arg9 (tStrip arg3 harg3 x1) := by
  unfold kernelRun0_A.sl.v7301 tile; rw [tA]
theorem tile_misA : kernelRun0_A.sl.v7303 c arg2 harg2 arg3 harg3 arg10 x0 x1 = tile arg10 (misStrip arg2 harg2 arg3 harg3 x0 x1) := by
  unfold kernelRun0_A.sl.v7303 tile; rw [misA]

theorem rowsA_S : kernelRun0_A.sl.HS0_19 c arg2 harg2 arg3 harg3 arg5 arg8 arg9 x0 x1 = pushes (F := F) arg5 (rowS (kernelRun0_A.sl.v7302 c arg2 harg2 arg3 harg3 arg8 x0 x1) (kernelRun0_A.sl.v7301 c arg3 harg3 arg9 x1)) 18 0 (by omega) (filled k0_pay13) := by sl_kernel_rfl
theorem accA_S : (kernelRun0_A c i arg2 harg2 arg3 harg3 arg4 harg4 arg5 harg5 arg6 harg6 arg7 harg7 arg8 harg8 arg9 harg9 arg10 harg10 hc0 hc1 x0 x1).2.1
    = push (F := F) arg5 (rowS (kernelRun0_A.sl.v7302 c arg2 harg2 arg3 harg3 arg8 x0 x1) (kernelRun0_A.sl.v7301 c arg3 harg3 arg9 x1)) 18 (by omega) (pushes arg5 (rowS (kernelRun0_A.sl.v7302 c arg2 harg2 arg3 harg3 arg8 x0 x1) (kernelRun0_A.sl.v7301 c arg3 harg3 arg9 x1)) 18 0 (by omega) (filled k0_pay13)) := by
  rw [← rowsA_S]; unfold kernelRun0_A; sl_kernel_rfl
theorem rowsA_G : kernelRun0_A.sl.HS1_19 c arg3 harg3 arg6 arg9 x1 = pushes (F := F) arg6 (rowG (kernelRun0_A.sl.v7301 c arg3 harg3 arg9 x1)) 18 0 (by omega) (filled k0_pay14) := by sl_kernel_rfl
theorem accA_G : (kernelRun0_A c i arg2 harg2 arg3 harg3 arg4 harg4 arg5 harg5 arg6 harg6 arg7 harg7 arg8 harg8 arg9 harg9 arg10 harg10 hc0 hc1 x0 x1).2.2.1
    = push (F := F) arg6 (rowG (kernelRun0_A.sl.v7301 c arg3 harg3 arg9 x1)) 18 (by omega) (pushes arg6 (rowG (kernelRun0_A.sl.v7301 c arg3 harg3 arg9 x1)) 18 0 (by omega) (filled k0_pay14)) := by
  rw [← rowsA_G]; unfold kernelRun0_A; sl_kernel_rfl
theorem rowsA_M : kernelRun0_A.sl.HS2_19 c arg2 harg2 arg3 harg3 arg7 arg9 arg10 x0 x1 = pushes (F := F) arg7 (rowM (kernelRun0_A.sl.v7303 c arg2 harg2 arg3 harg3 arg10 x0 x1) (kernelRun0_A.sl.v7301 c arg3 harg3 arg9 x1)) 18 0 (by omega) (filled k0_pay15) := by sl_kernel_rfl
theorem accA_M : (kernelRun0_A c i arg2 harg2 arg3 harg3 arg4 harg4 arg5 harg5 arg6 harg6 arg7 harg7 arg8 harg8 arg9 harg9 arg10 harg10 hc0 hc1 x0 x1).2.2.2.1
    = push (F := F) arg7 (rowM (kernelRun0_A.sl.v7303 c arg2 harg2 arg3 harg3 arg10 x0 x1) (kernelRun0_A.sl.v7301 c arg3 harg3 arg9 x1)) 18 (by omega) (pushes arg7 (rowM (kernelRun0_A.sl.v7303 c arg2 harg2 arg3 harg3 arg10 x0 x1) (kernelRun0_A.sl.v7301 c arg3 harg3 arg9 x1)) 18 0 (by omega) (filled k0_pay15)) := by
  rw [← rowsA_M]; unfold kernelRun0_A; sl_kernel_rfl
end

end

end Cert.KernelIdeal.Hand

end
-- ==== Proof.KAccC.lean ====
module

public import proofs.«01_k».proof.Proof.KAcc
public import Idealize.ShloMosaic.Lib.Pipeline.ValueKit
import all proofs.«01_k».proof.Proof.Gen.KernelIdeal.Frame.RunA
import all proofs.«01_k».proof.Proof.Gen.KernelIdeal.Frame.RunB
import all proofs.«01_k».proof.Proof.Gen.KernelIdeal.Frame.RunC

/-! What a grid point stores in its three accumulators: a row for every class, the row before plus the column sums of a
    tile. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-! ## The pieces of every kind of point -/

section
variable (c : Dev nD) (i : grid0.Coords) (arg2 : Memref sig .tc .vmem S1x19x256x512 .f32) (harg2 : arg2.IsWhole)
  (arg3 : Memref sig .tc .vmem S1x256x512 .i32) (harg3 : arg3.IsWhole) (arg4 : Memref sig .tc .vmem S8x128 .f32) (harg4 : arg4.IsWhole)
  (arg5 : Memref sig .tc .vmem S19x512 .f32) (harg5 : arg5.IsWhole) (arg6 : Memref sig .tc .vmem S19x512 .i32) (harg6 : arg6.IsWhole)
  (arg7 : Memref sig .tc .vmem S19x512 .i32) (harg7 : arg7.IsWhole) (arg8 : Memref sig .tc .vmem S256x512 .bf16) (harg8 : arg8.IsWhole)
  (arg9 : Memref sig .tc .vmem S256x512 .bf16) (harg9 : arg9.IsWhole) (arg10 : Memref sig .tc .vmem S256x512 .bf16) (harg10 : arg10.IsWhole)
  (x0 : Vec F S1x19x256x512 .f32) (x1 : Vec F S1x256x512 .i32)

section
variable (hc0 : ¬cond0_0 i) (hc1 : cond0_1 i) (xs0 : Vec F S19x512 .f32) (xs1 : Vec F S19x512 .i32) (xs2 : Vec F S19x512 .i32)

theorem tile_ceC : kernelRun0_C.sl.v7302 c arg2 harg2 arg3 harg3 arg8 x0 x1 = tile arg8 (ceStrip arg2 harg2 arg3 harg3 x0 x1) := by
  unfold kernelRun0_C.sl.v7302 tile; rw [ceC]
theorem tile_tC : kernelRun0_C.sl.v7301 c arg3 harg3 arg9 x1 = tile arg9 (tStrip arg3 harg3 x1) := by
  unfold kernelRun0_C.sl.v7301 tile; rw [tC]
theorem tile_misC : kernelRun0_C.sl.v7303 c arg2 harg2 arg3 harg3 arg10 x0 x1 = tile arg10 (misStrip arg2 harg2 arg3 harg3 x0 x1) := by
  unfold kernelRun0_C.sl.v7303 tile; rw [misC]

theorem accC_S : (kernelRun0_C c i arg2 harg2 arg3 harg3 arg4 harg4 arg5 harg5 arg6 harg6 arg7 harg7 arg8 harg8 arg9 harg9 arg10 harg10 hc0 hc1 x0 x1 xs0 xs1 xs2).2.1
    = stackB arg5 harg5 xs0 (rowS (kernelRun0_C.sl.v7302 c arg2 harg2 arg3 harg3 arg8 x0 x1) (kernelRun0_C.sl.v7301 c arg3 harg3 arg9 x1)) 19 le_rfl := by
  unfold kernelRun0_C; sl_kernel_rfl
theorem accC_G : (kernelRun0_C c i arg2 harg2 arg3 harg3 arg4 harg4 arg5 harg5 arg6 harg6 arg7 harg7 arg8 harg8 arg9 harg9 arg10 harg10 hc0 hc1 x0 x1 xs0 xs1 xs2).2.2.1
    = stackB arg6 harg6 xs1 (rowG (kernelRun0_C.sl.v7301 c arg3 harg3 arg9 x1)) 19 le_rfl := by
  unfold kernelRun0_C; sl_kernel_rfl
theorem accC_M : (kernelRun0_C c i arg2 harg2 arg3 harg3 arg4 harg4 arg5 harg5 arg6 harg6 arg7 harg7 arg8 harg8 arg9 harg9 arg10 harg10 hc0 hc1 x0 x1 xs0 xs1 xs2).2.2.2.1
    = stackB arg7 harg7 xs2 (rowM (kernelRun0_C.sl.v7303 c arg2 harg2 arg3 harg3 arg10 x0 x1) (kernelRun0_C.sl.v7301 c arg3 harg3 arg9 x1)) 19 le_rfl := by
  unfold kernelRun0_C; sl_kernel_rfl

/-- The result, of the three accumulators. -/
def finish (s : Vec F S19x512 .f32) (g m : Vec F S19x512 .i32) : FVec F S8x128 .f32 :=
  k0_pay3 (k0_pay4 m) (k0_pay5 g) (k0_pay6 s) k0_pay7 (k0_pay8 s) (k0_pay9 m) (k0_pay10 g) (k0_pay11 s) (k0_pay12 m)

/-- A whole accumulator read back. -/
def back {e : EltTy} (arg : Memref sig .tc .vmem S19x512 e) (L : List (View.Piece (Elt F) S19x512 e)) : Vec F S19x512 e :=
  arg.view.readCov L (Rect.unit (s := S19x512) ![0, 0] S19x512.size inb_S19x512_S19x512_0_0).toLoadRect

theorem outC : (kernelRun0_C c i arg2 harg2 arg3 harg3 arg4 harg4 arg5 harg5 arg6 harg6 arg7 harg7 arg8 harg8 arg9 harg9 arg10 harg10 hc0 hc1 x0 x1 xs0 xs1 xs2).1
    = [⟨Rect.unit (s := S8x128) ![0, 0] S8x128.size inb_S8x128_S8x128_0_0,
      finish (back arg5 (kernelRun0_C c i arg2 harg2 arg3 harg3 arg4 harg4 arg5 harg5 arg6 harg6 arg7 harg7 arg8 harg8 arg9 harg9 arg10 harg10 hc0 hc1 x0 x1 xs0 xs1 xs2).2.1)
        (back arg6 (kernelRun0_C c i arg2 harg2 arg3 harg3 arg4 harg4 arg5 harg5 arg6 harg6 arg7 harg7 arg8 harg8 arg9 harg9 arg10 harg10 hc0 hc1 x0 x1 xs0 xs1 xs2).2.2.1)
        (back arg7 (kernelRun0_C c i arg2 harg2 arg3 harg3 arg4 harg4 arg5 harg5 arg6 harg6 arg7 harg7 arg8 harg8 arg9 harg9 arg10 harg10 hc0 hc1 x0 x1 xs0 xs1 xs2).2.2.2.1)⟩] := by
  unfold kernelRun0_C; sl_kernel_rfl
end

end

end Cert.KernelIdeal.Hand

end
-- ==== Proof.KRead.lean ====
module

public import proofs.«01_k».proof.Proof.KAcc
public import Idealize.ShloMosaic.Lib.Pointwise

/-! What the lists of pieces hold, read at an index: an accumulator's rows, a tile's strips. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

section
variable {e : EltTy}

/-- Row `n`'s box holds the indices of row `n`. -/
theorem mem_row (n : ℕ) (h : n < 19) (j : S19x512.Idx) : j ∈ (rowR n h).set ↔ (j 0).val = n := by
  rw [Rect.mem_set_unit]
  constructor
  · intro H
    have := H 0
    change n ≤ (j 0).val ∧ (j 0).val < n + 1 at this
    omega
  · intro H a
    have h1 : (j 1).val < 512 := (j 1).isLt
    fin_cases a
    · show n ≤ (j 0).val ∧ (j 0).val < n + 1; omega
    · show 0 ≤ (j 1).val ∧ (j 1).val < 0 + 512; omega

theorem row_emb (n : ℕ) (h : n < 19) (j : S19x512.Idx) (hj : (j 0).val = n) : j = (rowR n h).emb (ix2 0 (j 1)) := by
  funext a
  fin_cases a
  · apply Fin.ext; show (j 0).val = n + 1 * 0; omega
  · apply Fin.ext; show (j 1).val = 0 + 1 * (j 1).val; omega

/-- A row stored last, read at an index. -/
theorem canon_row (n : ℕ) (h : n < 19) (w : Vec F S1x512 e) (L : List (View.Piece (Elt F) S19x512 e)) (j : S19x512.Idx) :
    View.canon ((⟨rowR n h, w⟩ : View.Piece (Elt F) S19x512 e) :: L) j = if (j 0).val = n then w (ix2 0 (j 1)) else View.canon L j := by
  split
  · rename_i hj
    conv_lhs => rw [row_emb n h j hj]
    exact View.canon_cons_emb (rowR n h) w L _
  · rename_i hj
    exact View.canon_cons_of_not_mem _ _ (fun H => hj ((mem_row n h j).mp H))

theorem update_row (g : ℕ → Vec F S1x512 e → Vec F S1x512 e) (xs : Vec F S19x512 e) (n : ℕ) (h : n < 19) (j : S19x512.Idx) (hj : (j 0).val = n) :
    g n (View.ld xs (rowR n h)) (ix2 0 (j 1)) = update g xs j := by
  subst hj; rfl

theorem canon_stackB (arg : Memref sig .tc .vmem S19x512 e) (harg : arg.IsWhole) (xs : Vec F S19x512 e) (g : ℕ → Vec F S1x512 e → Vec F S1x512 e) :
    ∀ (n : ℕ) (h : n ≤ 19) (j : S19x512.Idx), (j 0).val < n → View.canon (stackB arg harg xs g n h) j = update g xs j
  | 0, _, _, hj => absurd hj (Nat.not_lt_zero _)
  | n + 1, h, j, hj => by
    rw [stackB, canon_row, View.readAt_eq_ld, harg.read_unread]
    split
    · rename_i hn
      exact update_row g xs n h j hn
    · exact canon_stackB arg harg xs g n _ j (by omega)

/-- All nineteen rows. -/
theorem canon_stackB' (arg : Memref sig .tc .vmem S19x512 e) (harg : arg.IsWhole) (xs : Vec F S19x512 e) (g : ℕ → Vec F S1x512 e → Vec F S1x512 e) :
    View.canon (stackB arg harg xs g 19 le_rfl) = update g xs :=
  funext fun j => canon_stackB arg harg xs g 19 le_rfl j (j 0).isLt

/-- What is left after `n` rows over a fill `z`. -/
def After (g : ℕ → Vec F S1x512 e → Vec F S1x512 e) (z : Vec F S19x512 e) (n : ℕ) (L : List (View.Piece (Elt F) S19x512 e)) : Prop :=
  ∀ j, View.canon L j = if (j 0).val < n then update g z j else z j

theorem after_filled (g : ℕ → Vec F S1x512 e → Vec F S1x512 e) (z : Vec F S19x512 e) : After g z 0 (filled z) := by
  intro j
  rw [if_neg (Nat.not_lt_zero _), filled]
  exact congrFun (View.canon_cons_unit_lit' inb_S19x512_S19x512_0_0 z [] (by decide)) j

theorem after_push (arg : Memref sig .tc .vmem S19x512 e) (g : ℕ → Vec F S1x512 e → Vec F S1x512 e) (z : Vec F S19x512 e) (n : ℕ) (h : n < 19)
    (L : List (View.Piece (Elt F) S19x512 e)) (hL : After g z n L) : After g z (n + 1) (push arg g n h L) := by
  intro j
  have hr : arg.view.readCov L (rowR n h).toLoadRect = View.ld z (rowR n h) := by
    rw [View.readCov_eq_canon']
    funext x
    rw [hL]
    have hx : (x 0).val = 0 := by have := (x 0).isLt; change (x 0).val < 1 at this; omega
    have hn : ¬ ((rowR n h).toLoadRect.idx x 0).val < n := by
      show ¬ (n + 1 * (x 0).val < n)
      omega
    exact if_neg hn
  rw [push, canon_row, hr]
  split
  · rename_i hn
    rw [if_pos (by omega)]
    exact update_row g z n h j hn
  · rename_i hn
    rw [hL]
    by_cases hlt : (j 0).val < n
    · rw [if_pos hlt, if_pos (by omega)]
    · rw [if_neg hlt, if_neg (by omega)]

theorem after_pushes (arg : Memref sig .tc .vmem S19x512 e) (g : ℕ → Vec F S1x512 e → Vec F S1x512 e) (z : Vec F S19x512 e) :
    ∀ (k n : ℕ) (h : n + k ≤ 19) (L : List (View.Piece (Elt F) S19x512 e)), After g z n L → After g z (n + k) (pushes arg g k n h L)
  | 0, _, _, _, hL => hL
  | k + 1, n, h, L, hL => by
    rw [pushes, show n + (k + 1) = n + 1 + k by omega]
    exact after_pushes arg g z k (n + 1) _ _ (after_push arg g z n _ L hL)

/-- All nineteen rows over a fill. -/
theorem canon_pushes (arg : Memref sig .tc .vmem S19x512 e) (g : ℕ → Vec F S1x512 e → Vec F S1x512 e) (z : Vec F S19x512 e) :
    View.canon (push arg g 18 (by omega) (pushes arg g 18 0 (by omega) (filled z))) = update g z := by
  funext j
  have := after_push arg g z 18 (by omega) _ (after_pushes arg g z 18 0 (by omega) _ (after_filled g z)) j
  rwa [if_pos (by exact (j 0).isLt)] at this

end

/-- A tile at an index: the strip's row. -/
theorem canon_strips (f : (i : ℕ) → i < 16 → FVec F S16x512 .bf16) (G : ℕ → Fin 512 → F .bf16)
    (hf : ∀ (i : ℕ) (hi : i < 16) (r : Fin 16) (l : Fin 512), f i hi (ix2 r l) = G (16 * i + r.val) l) (j : S256x512.Idx) :
    View.canon (strips f) j = G (j 0).val (j 1) := by
  have h0 : (j 0).val < 256 := (j 0).isLt
  have h1 : (j 1).val < 512 := (j 1).isLt
  refine View.canon_ofFn_unit_eq_of_forall (Val := Elt F) (S := S256x512) (e := .bf16) (fun k : Fin 16 => ![16 * (15 - k.val), 0]) S16x512.size inbS (fun k => f (15 - k.val) (by omega)) j _ ?_ ?_
  · refine ⟨⟨15 - (j 0).val / 16, by omega⟩, fun a => ?_⟩
    fin_cases a
    · show 16 * (15 - (15 - (j 0).val / 16)) ≤ (j 0).val ∧ (j 0).val < 16 * (15 - (15 - (j 0).val / 16)) + 16
      omega
    · show 0 ≤ (j 1).val ∧ (j 1).val < 0 + 512
      omega
  · intro k x hx
    have e0 := hx 0
    have e1 := hx 1
    change (j 0).val = 16 * (15 - k.val) + (x 0).val at e0
    change (j 1).val = 0 + (x 1).val at e1
    rw [e0, show x = ix2 (x 0) (x 1) from eq_ix2 x]
    refine (hf (15 - k.val) (by omega) (x 0) (x 1)).trans ?_
    rw [show (x 1 : Fin 512) = j 1 from Fin.ext (by omega)]
    rfl

theorem tile_eq (arg : Memref sig .tc .vmem S256x512 .bf16) (f : (i : ℕ) → i < 16 → FVec F S16x512 .bf16) :
    tile arg f = View.canon (strips f) := by
  rw [tile, View.readCov_eq_canon']
  exact View.ld_unit_lit' inb_S256x512_S256x512_0_0 (View.canon (strips f)) (by decide)

end Cert.KernelIdeal.Hand

end
-- ==== Proof.Common.lean ====
module

public import Idealize.ShloMosaic.Lib.IdealHost
public import Idealize.ShloMosaic.Lib.Pointwise

/-! What both programs compute, over the reals: the weighted mean of the cross entropies of the pixels. -/

@[expose] public section

noncomputable section

namespace Cert.KernelIdeal.Hand

open Idealize.ShloMosaic

/-- A pixel's cross entropy, of its nineteen logits and its target. -/
def ceR (u : ℕ → ℝ) (k : ℕ) : ℝ := Real.log (∑ c ∈ Finset.range 19, Real.exp (u c)) - u k

open Classical in
/-- One where some logit exceeds the target's. -/
def missR (u : ℕ → ℝ) (k : ℕ) : ℕ := if ∃ c, c < 19 ∧ u k < u c then 1 else 0

theorem missR_le (u : ℕ → ℝ) (k : ℕ) : missR u k ≤ 1 := by unfold missR; split <;> omega

/-- A count where there is one, one where there is none. -/
def posOr (x : ℝ) : ℝ := if 0 < x then x else 1

theorem posOr_pos (x : ℝ) : 0 < posOr x := by unfold posOr; split <;> [assumption; exact one_pos]

/-- A sum of reals, taken over the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem ofBits_pixels : Ideal.ofBits .f32 0x4A000000#32 = ((2097152 : ℝ) : EReal) := by
  simp [Ideal.ofBits, Ideal.ieee, -EReal.coe_mul]; norm_num

theorem div_real (x y : ℝ) (hy : 0 < y) : Ideal.div ((x : ℝ) : EReal) ((y : ℝ) : EReal) = ((x / y : ℝ) : EReal) := by
  have h : ((y : ℝ) : EReal) ≠ 0 := by simpa using hy.ne'
  rw [Ideal.div, if_neg h, div_eq_mul_inv, EReal.coe_mul, EReal.coe_inv]

section
variable (u : Fin 8 → Fin 512 → Fin 512 → ℕ → ℝ) (k : Fin 8 → Fin 512 → Fin 512 → ℕ)

/-- The sum of a quantity over the pixels of a class. -/
def ofClass (f : Fin 8 → Fin 512 → Fin 512 → ℝ) (a : ℕ) : ℝ := ∑ b, ∑ h, ∑ w, if k b h w = a then f b h w else 0

/-- The pixels of a class, its misclassified pixels, its cross entropies. -/
def pixels (a : ℕ) : ℝ := ofClass k (fun _ _ _ => 1) a
def misses (a : ℕ) : ℝ := ofClass k (fun b h w => (missR (u b h w) (k b h w) : ℝ)) a
def entropy (a : ℕ) : ℝ := ofClass k (fun b h w => ceR (u b h w) (k b h w)) a

/-- A class's weight. -/
def weightR (a : ℕ) : ℝ := posOr (misses u k a) / posOr (pixels k a)

/-- The loss. -/
def lossR : ℝ := (∑ a ∈ Finset.range 19, weightR u k a * entropy u k a) / 2097152

/-- Every pixel is of one class: summed pixel by pixel, each at its class's weight. -/
theorem weighted (hk : ∀ b h w, k b h w < 19) (g : ℕ → ℝ) (f : Fin 8 → Fin 512 → Fin 512 → ℝ) :
    ∑ a ∈ Finset.range 19, g a * ofClass k f a = ∑ b, ∑ h, ∑ w, g (k b h w) * f b h w := by
  unfold ofClass
  simp only [Finset.mul_sum]
  rw [Finset.sum_comm]
  refine Finset.sum_congr rfl fun b _ => ?_
  rw [Finset.sum_comm]
  refine Finset.sum_congr rfl fun h _ => ?_
  rw [Finset.sum_comm]
  refine Finset.sum_congr rfl fun w _ => ?_
  rw [Finset.sum_eq_single_of_mem (k b h w) (Finset.mem_range.mpr (hk b h w)) fun a _ ha => by rw [if_neg (Ne.symm ha), mul_zero], if_pos rfl]

end

end Cert.KernelIdeal.Hand

end
-- ==== Proof.KTile.lean ====
module

public import proofs.«01_k».proof.Proof.KRead
public import proofs.«01_k».proof.Proof.Common
public import Idealize.ShloMosaic.Lib.IdealHost

/-! The three tiles of a grid point over the extended reals: the cross entropy, the target and whether the target's logit is
    below another, pixel by pixel. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- The constant the kernel multiplies logits by. -/
theorem log2e : (Named.named κ "log2_e" 0x3FB8AA3B#32 : Ideal .f32) = (((Real.log 2)⁻¹ : ℝ) : EReal) :=
  IdealRules.named_const.ideal_named_scalar _ _ _ _ rfl

theorem ln2 : (Named.named κ "ln_2" 0x3F317218#32 : Ideal .f32) = ((Real.log 2 : ℝ) : EReal) :=
  IdealRules.named_const.ideal_named_scalar _ _ _ _ rfl

theorem log2_ne : Real.log 2 ≠ 0 := (Real.log_pos one_lt_two).ne'

theorem rpow_scaled (x : ℝ) : Real.rpow 2 (x * (Real.log 2)⁻¹) = Real.exp x := by
  show (2 : ℝ) ^ (x * (Real.log 2)⁻¹) = _
  rw [Real.rpow_def_of_pos two_pos]
  congr 1
  field_simp [log2_ne]

section
variable (x : Fin 19 → Vec Ideal S1x1x8x512 .f32) (t : Vec Ideal S1x8x512 .i32) (r : Fin 8) (l : Fin 512) (u : ℕ → ℝ) (k : ℕ)
  (hx : ∀ c : Fin 19, x c (ix4 0 0 r l) = ((u c.val : ℝ) : EReal)) (hk : k < 19) (ht : t (ix3 0 r l) = BitVec.ofNat 32 k)

include hx in
theorem scaled_at (c : Fin 19) : scaled (x c) (ix2 r l) = ((u c.val * (Real.log 2)⁻¹ : ℝ) : EReal) := by
  unfold scaled
  pointwise [log2e]
  rw [hx, ← EReal.coe_mul]

include hx in
theorem total_at : ∀ (n : ℕ) (h : n < 19), total x n h (ix2 r l) = ((∑ c ∈ Finset.range (n + 1), Real.exp (u c) : ℝ) : EReal)
  | 0, h => by
    show Ideal.exp2 (scaled (x ⟨0, h⟩) (ix2 r l)) = _
    rw [scaled_at x r l u hx, Ideal.exp2_coe, rpow_scaled]
    simp
  | n + 1, h => by
    show total x n (Nat.lt_of_succ_lt h) (ix2 r l) + Ideal.exp2 (scaled (x ⟨n + 1, h⟩) (ix2 r l)) = _
    rw [scaled_at x r l u hx, Ideal.exp2_coe, rpow_scaled, total_at n, ← EReal.coe_add, Finset.sum_range_succ _ (n + 1)]

include hx in
theorem top_at (y : ℝ) : ∀ (n : ℕ) (h : n < 19), (((y * (Real.log 2)⁻¹ : ℝ) : EReal) < top x n h (ix2 r l) ↔ ∃ c, c ≤ n ∧ y < u c)
  | 0, h => by
    show _ < scaled (x ⟨0, h⟩) (ix2 r l) ↔ _
    rw [scaled_at x r l u hx, EReal.coe_lt_coe_iff, mul_lt_mul_iff_left₀ (inv_pos.mpr (Real.log_pos one_lt_two))]
    constructor
    · intro H; exact ⟨0, le_rfl, H⟩
    · rintro ⟨c, hc, H⟩; obtain rfl := Nat.le_zero.mp hc; exact H
  | n + 1, h => by
    show _ < max (top x n (Nat.lt_of_succ_lt h) (ix2 r l)) (scaled (x ⟨n + 1, h⟩) (ix2 r l)) ↔ _
    rw [lt_max_iff, top_at y n, scaled_at x r l u hx, EReal.coe_lt_coe_iff, mul_lt_mul_iff_left₀ (inv_pos.mpr (Real.log_pos one_lt_two))]
    constructor
    · rintro (⟨c, hc, H⟩ | H)
      · exact ⟨c, by omega, H⟩
      · exact ⟨n + 1, le_rfl, H⟩
    · rintro ⟨c, hc, H⟩
      rcases Nat.lt_or_ge n c with h' | h'
      · obtain rfl : c = n + 1 := by omega
        exact Or.inr H
      · exact Or.inl ⟨c, h', H⟩

/-- Two words of naturals below 19 are equal when the naturals are. -/
theorem word_eq (a b : ℕ) (ha : a < 19) (hb : b < 19) : IntOp.cmpi .eq (BitVec.ofNat 32 a) (BitVec.ofNat 32 b) = BitVec.ofBool (decide (a = b)) := by
  show BitVec.ofBool (decide (BitVec.ofNat 32 a = BitVec.ofNat 32 b)) = _
  congr 2
  rw [← BitVec.toNat_inj, BitVec.toNat_ofNat, BitVec.toNat_ofNat, Nat.mod_eq_of_lt (by omega), Nat.mod_eq_of_lt (by omega)]

include hx ht hk in
theorem picked_at : ∀ (n : ℕ) (h : n < 19), picked x t n h (ix2 r l) = (((if k ≤ n then u k else u 0) * (Real.log 2)⁻¹ : ℝ) : EReal)
  | 0, h => by
    show scaled (x ⟨0, h⟩) (ix2 r l) = _
    rw [scaled_at x r l u hx]
    by_cases hk0 : k ≤ 0
    · obtain rfl := Nat.le_zero.mp hk0; simp
    · rw [if_neg hk0]
  | n + 1, h => by
    have e : tgt t (ix2 r l) = BitVec.ofNat 32 k := by
      unfold tgt
      pointwise
      exact ht
    show Scalar.select (IntOp.cmpi .eq (tgt t (ix2 r l)) (BitVec.ofNat 32 (n + 1))) (scaled (x ⟨n + 1, h⟩) (ix2 r l)) (picked x t n _ (ix2 r l)) = _
    rw [scaled_at x r l u hx, picked_at n, e, word_eq k (n + 1) hk h]
    by_cases hkn : k = n + 1
    · subst hkn; simp [Scalar.select]
    · rw [decide_eq_false hkn]
      show (((if k ≤ n then u k else u 0) * (Real.log 2)⁻¹ : ℝ) : EReal) = _
      by_cases h' : k ≤ n
      · rw [if_pos h', if_pos (by omega)]
      · rw [if_neg h', if_neg (by omega)]

include hx ht hk in
theorem ce8_at : ce8 x t (ix2 r l) = ((ceR u k : ℝ) : EReal) := by
  show ((Ideal.log (total x 18 (by decide) (ix2 r l)) * (Named.named κ "log2_e" 0x3FB8AA3B#32 : Ideal .f32) - picked x t 18 (by decide) (ix2 r l)) * (Named.named κ "ln_2" 0x3F317218#32 : Ideal .f32) : EReal) = _
  have hp : 0 < ∑ c ∈ Finset.range 19, Real.exp (u c) := Finset.sum_pos (fun _ _ => Real.exp_pos _) ⟨0, by simp⟩
  rw [total_at x r l u hx, picked_at x t r l u k hx hk ht, if_pos (by omega), Ideal.log_coe, if_neg (not_le.mpr hp), log2e, ln2,
    ← EReal.coe_mul, ← EReal.coe_sub, ← EReal.coe_mul]
  congr 1
  unfold ceR
  field_simp [log2_ne]

include hx ht hk in
theorem mis8_at : mis8 x t (ix2 r l) = ((missR u k : ℝ) : EReal) := by
  show Scalar.select (BitVec.ofBool (decide (picked x t 18 (by decide) (ix2 r l) < top x 18 (by decide) (ix2 r l)))) (Ideal.ofBits .f32 0x3F800000#32) (Ideal.ofBits .f32 0x00000000#32) = _
  rw [picked_at x t r l u k hx hk ht, if_pos (by omega), Ideal.ofBits_one_f32, Ideal.ofBits_zero_f32]
  unfold missR
  have hiff := top_at x r l u hx (u k) 18 (by decide)
  by_cases h : ∃ c, c < 19 ∧ u k < u c
  · rw [decide_eq_true (hiff.mpr (by obtain ⟨c, hc, H⟩ := h; exact ⟨c, by omega, H⟩)), if_pos h]
    simp [Scalar.select]
  · rw [decide_eq_false (fun H => h (by obtain ⟨c, hc, H⟩ := hiff.mp H; exact ⟨c, by omega, H⟩)), if_neg h]
    simp [Scalar.select]

end

section
variable (arg2 : Memref sig .tc .vmem S1x19x256x512 .f32) (harg2 : arg2.IsWhole) (arg3 : Memref sig .tc .vmem S1x256x512 .i32) (harg3 : arg3.IsWhole)
  (x0 : Vec Ideal S1x19x256x512 .f32) (x1 : Vec Ideal S1x256x512 .i32) (A : ℕ → ℕ → Fin 512 → ℝ) (K : ℕ → Fin 512 → ℕ)
  (hA : ∀ (c : Fin 19) (r : Fin 256) (l : Fin 512), x0 (ix4 0 c r l) = ((A c.val r.val l : ℝ) : EReal))
  (hK : ∀ (r : Fin 256) (l : Fin 512), K r.val l < 19 ∧ x1 (ix3 0 r l) = BitVec.ofNat 32 (K r.val l))

include hA in
theorem rowsX_at (n : ℕ) (hn : n < 32) (c : Fin 19) (r : Fin 8) (l : Fin 512) :
    rowsX arg2 harg2 x0 n hn c (ix4 0 0 r l) = ((A c.val (8 * n + r.val) l : ℝ) : EReal) := by
  unfold rowsX
  rw [View.readAt_eq_ld, harg2.read_unread]
  refine Eq.trans (congrArg x0 ?_) (hA c ⟨8 * n + r.val, by omega⟩ l)
  funext a
  apply Fin.ext
  fin_cases a
  · rfl
  · show c.val + 1 * 0 = c.val; omega
  · show 8 * n + 1 * r.val = 8 * n + r.val; omega
  · show 0 + 1 * l.val = l.val; omega

include hK in
theorem rowsT_at (n : ℕ) (hn : n < 32) (r : Fin 8) (l : Fin 512) :
    rowsT arg3 harg3 x1 n hn (ix3 0 r l) = BitVec.ofNat 32 (K (8 * n + r.val) l) := by
  unfold rowsT
  rw [View.readAt_eq_ld, harg3.read_unread]
  refine Eq.trans (congrArg x1 ?_) (hK ⟨8 * n + r.val, by omega⟩ l).2
  funext a
  apply Fin.ext
  fin_cases a
  · rfl
  · show 8 * n + 1 * r.val = 8 * n + r.val; omega
  · show 0 + 1 * l.val = l.val; omega

/-- The two halves of a strip. -/
theorem halves {φ : FTy} (u v : FVec Ideal S8x512 φ) (G : ℕ → Fin 512 → EReal) (i : ℕ)
    (hu : ∀ (r : Fin 8) (l : Fin 512), u (ix2 r l) = G (8 * (2 * i) + r.val) l) (hv : ∀ (r : Fin 8) (l : Fin 512), v (ix2 r l) = G (8 * (2 * i + 1) + r.val) l)
    (r : Fin 16) (l : Fin 512) :
    concatenate S16x512 0 [⟨S8x512, u⟩, ⟨S8x512, v⟩] concatenates_S8x512_S8x512_S16x512_d0 (ix2 r l) = G (16 * i + r.val) l := by
  pointwise
  split
  · rw [hu]; congr 1; show 8 * (2 * i) + r.val = _; omega
  · rw [hv]; congr 1; show 8 * (2 * i + 1) + (r.val - 8) = _; omega

include hA hK in
theorem ceStrip_at (i : ℕ) (hi : i < 16) (r : Fin 16) (l : Fin 512) :
    ceStrip arg2 harg2 arg3 harg3 x0 x1 i hi (ix2 r l) = ((ceR (fun c => A c (16 * i + r.val) l) (K (16 * i + r.val) l) : ℝ) : EReal) := by
  unfold ceStrip
  rw [shapeCast_self]
  refine halves _ _ (fun R l => ((ceR (fun c => A c R l) (K R l) : ℝ) : EReal)) i (fun r l => ?_) (fun r l => ?_) r l
  · exact ce8_at _ _ r l _ _ (fun c => rowsX_at arg2 harg2 x0 A hA _ _ c r l) (hK ⟨8 * (2 * i) + r.val, by omega⟩ l).1 (rowsT_at arg3 harg3 x1 K hK _ _ r l)
  · exact ce8_at _ _ r l _ _ (fun c => rowsX_at arg2 harg2 x0 A hA _ _ c r l) (hK ⟨8 * (2 * i + 1) + r.val, by omega⟩ l).1 (rowsT_at arg3 harg3 x1 K hK _ _ r l)

include hA hK in
theorem misStrip_at (i : ℕ) (hi : i < 16) (r : Fin 16) (l : Fin 512) :
    misStrip arg2 harg2 arg3 harg3 x0 x1 i hi (ix2 r l) = ((missR (fun c => A c (16 * i + r.val) l) (K (16 * i + r.val) l) : ℝ) : EReal) := by
  unfold misStrip
  rw [shapeCast_self]
  refine halves _ _ (fun R l => ((missR (fun c => A c R l) (K R l) : ℝ) : EReal)) i (fun r l => ?_) (fun r l => ?_) r l
  · exact mis8_at _ _ r l _ _ (fun c => rowsX_at arg2 harg2 x0 A hA _ _ c r l) (hK ⟨8 * (2 * i) + r.val, by omega⟩ l).1 (rowsT_at arg3 harg3 x1 K hK _ _ r l)
  · exact mis8_at _ _ r l _ _ (fun c => rowsX_at arg2 harg2 x0 A hA _ _ c r l) (hK ⟨8 * (2 * i + 1) + r.val, by omega⟩ l).1 (rowsT_at arg3 harg3 x1 K hK _ _ r l)

/-- A natural below 19 as a word, read as a number. -/
theorem word_toInt (k : ℕ) (h : k < 19) : (BitVec.ofNat 32 k).toInt = k := by
  have e : (BitVec.ofNat 32 k).toNat = k := by rw [BitVec.toNat_ofNat]; exact Nat.mod_eq_of_lt (by omega)
  rw [BitVec.toInt_eq_toNat_of_lt (by omega), e]

include hK in
theorem tgt_at (n : ℕ) (hn : n < 32) (r : Fin 8) (l : Fin 512) :
    (sitofp .bf16 (tgt (rowsT arg3 harg3 x1 n hn)) : FVec Ideal S8x512 .bf16) (ix2 r l) = ((K (8 * n + r.val) l : ℝ) : EReal) := by
  unfold tgt
  pointwise
  rw [rowsT_at arg3 harg3 x1 K hK]
  show (((BitVec.ofNat 32 (K (8 * n + r.val) l)).toInt : ℝ) : EReal) = _
  rw [word_toInt _ (hK ⟨8 * n + r.val, by omega⟩ l).1]
  rfl

include hK in
theorem tStrip_at (i : ℕ) (hi : i < 16) (r : Fin 16) (l : Fin 512) :
    tStrip (F := Ideal) arg3 harg3 x1 i hi (ix2 r l) = ((K (16 * i + r.val) l : ℝ) : EReal) := by
  unfold tStrip
  rw [shapeCast_self]
  pointwise
  split
  · refine (tgt_at arg3 harg3 x1 K hK (2 * i) (by omega) ⟨r.val, _⟩ l).trans ?_
    congr 3; show 8 * (2 * i) + r.val = _; omega
  · refine (tgt_at arg3 harg3 x1 K hK (2 * i + 1) (by omega) ⟨r.val - 8, _⟩ l).trans ?_
    congr 3; show 8 * (2 * i + 1) + (r.val - 8) = _; omega

/-- The tile of cross entropies. -/
def ceV (A : ℕ → ℕ → Fin 512 → ℝ) (K : ℕ → Fin 512 → ℕ) : FVec Ideal S256x512 .bf16 := fun j => ((ceR (fun c => A c (j 0).val (j 1)) (K (j 0).val (j 1)) : ℝ) : EReal)
/-- The tile of targets. -/
def tV (K : ℕ → Fin 512 → ℕ) : FVec Ideal S256x512 .bf16 := fun j => ((K (j 0).val (j 1) : ℝ) : EReal)
/-- The tile of misclassified pixels. -/
def misV (A : ℕ → ℕ → Fin 512 → ℝ) (K : ℕ → Fin 512 → ℕ) : FVec Ideal S256x512 .bf16 := fun j => ((missR (fun c => A c (j 0).val (j 1)) (K (j 0).val (j 1)) : ℝ) : EReal)

include hA hK in
theorem ce_tile (arg : Memref sig .tc .vmem S256x512 .bf16) : tile arg (ceStrip arg2 harg2 arg3 harg3 x0 x1) = ceV A K := by
  rw [tile_eq]
  exact funext fun j => canon_strips (F := Ideal) _ (fun R l => ((ceR (fun c => A c R l) (K R l) : ℝ) : EReal)) (ceStrip_at arg2 harg2 arg3 harg3 x0 x1 A K hA hK) j
include hK in
theorem t_tile (arg : Memref sig .tc .vmem S256x512 .bf16) : tile (F := Ideal) arg (tStrip arg3 harg3 x1) = tV K := by
  rw [tile_eq]
  exact funext fun j => canon_strips (F := Ideal) _ (fun R l => ((K R l : ℝ) : EReal)) (tStrip_at arg3 harg3 x1 K hK) j
include hA hK in
theorem mis_tile (arg : Memref sig .tc .vmem S256x512 .bf16) : tile arg (misStrip arg2 harg2 arg3 harg3 x0 x1) = misV A K := by
  rw [tile_eq]
  exact funext fun j => canon_strips (F := Ideal) _ (fun R l => ((missR (fun c => A c R l) (K R l) : ℝ) : EReal)) (misStrip_at arg2 harg2 arg3 harg3 x0 x1 A K hA hK) j

end

end Cert.KernelIdeal.Hand

end
-- ==== Proof.KCols.lean ====
module

public import proofs.«01_k».proof.Proof.KTile

/-! What a grid point adds to its accumulators, over the extended reals: per class and column, the cross entropies, the
    pixels and the misclassified pixels of the class; the last class's row takes every pixel. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- The class numbers as the kernel writes them are the class numbers. -/
theorem ofBits_word (n : ℕ) (h : n < 18) : Ideal.ofBits .bf16 (word n) = ((n : ℝ) : EReal) := by
  interval_cases n <;> simp [word, Ideal.ofBits, Ideal.ieee, -EReal.coe_mul] <;> norm_num

/-- A small natural, read back as a word. -/
theorem fptosi_nat (k : ℕ) (h : k ≤ 256) : Ideal.fptosi 32 ((k : ℝ) : EReal) = BitVec.ofNat 32 k := by
  show BitVec.ofInt 32 (max (-(2 ^ (32 - 1) : ℕ)) (min ((2 ^ (32 - 1) : ℕ) - 1) (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  exact BitVec.ofInt_natCast 32 k

/-- Whether class `n`'s row takes a pixel of target `k`. -/
def takes (n k : ℕ) : Prop := n = 18 ∨ k = n
instance (n k : ℕ) : Decidable (takes n k) := inferInstanceAs (Decidable (_ ∨ _))

section
variable (A : ℕ → ℕ → Fin 512 → ℝ) (K : ℕ → Fin 512 → ℕ)

def sumS (n : ℕ) (l : Fin 512) : ℝ := ∑ r : Fin 256, if takes n (K r.val l) then ceR (fun c => A c r.val l) (K r.val l) else 0
def cntG (n : ℕ) (l : Fin 512) : ℕ := ∑ r : Fin 256, if takes n (K r.val l) then 1 else 0
def cntM (n : ℕ) (l : Fin 512) : ℕ := ∑ r : Fin 256, if takes n (K r.val l) then missR (fun c => A c r.val l) (K r.val l) else 0

theorem cntG_le (n : ℕ) (l : Fin 512) : cntG K n l ≤ 256 := by
  refine (Finset.sum_le_sum (g := fun _ => 1) fun r _ => ?_).trans (by simp)
  split <;> omega

theorem cntM_le (n : ℕ) (l : Fin 512) : cntM A K n l ≤ 256 := by
  refine (Finset.sum_le_sum (g := fun _ => 1) fun r _ => ?_).trans (by simp)
  split
  · exact missR_le _ _
  · omega

theorem cols_at (x : FVec Ideal S256x512 .bf16) (l : Fin 512) : cols x (ix1 l) = ∑ r : Fin 256, x (ix2 r l) := by
  unfold cols
  pointwise

/-- The whole tile for the last class, the class's pixels for the others. -/
def taken (t x : FVec Ideal S256x512 .bf16) (n : ℕ) : FVec Ideal S256x512 .bf16 := if n = 18 then x else only t x n

theorem taken_at (hK : ∀ (r : Fin 256) (l : Fin 512), K r.val l < 19) (x : FVec Ideal S256x512 .bf16) (n : ℕ) (hn : n < 19) (r : Fin 256) (l : Fin 512) :
    taken (tV K) x n (ix2 r l) = if takes n (K r.val l) then x (ix2 r l) else 0 := by
  unfold taken
  by_cases h : n = 18
  · rw [if_pos h, if_pos (show takes n _ from Or.inl h)]
  · rw [if_neg h]
    show Scalar.select (BitVec.ofBool (decide ((((K r.val l : ℕ) : ℝ) : EReal) = Ideal.ofBits .bf16 (word n)))) (x (ix2 r l)) (Ideal.ofBits .bf16 0x0000#16) = _
    rw [ofBits_word n (by omega), Ideal.ofBits_zero_bf16]
    by_cases e : K r.val l = n
    · rw [e, decide_eq_true rfl, if_pos (show takes n n from Or.inr rfl)]; rfl
    · rw [decide_eq_false (fun H => e (Nat.cast_inj.mp (EReal.coe_eq_coe_iff.mp H))), if_neg (show ¬ takes n _ by rintro (h' | h'); exacts [h h', e h'])]; rfl

theorem rowS_eq (ce t : FVec Ideal S256x512 .bf16) (n : ℕ) (v : Vec Ideal S1x512 .f32) : rowS ce t n v
    = shapeCast S1x512 (addf (shapeCast S512 v shapeCasts_S1x512_S512) (extf .f32 (cols (taken t ce n)) bitsLt_bf16_f32)) shapeCasts_S512_S1x512 := by
  unfold rowS taken
  split
  · rw [if_pos rfl]
  · rename_i h; rw [if_neg h]

theorem rowM_eq (mis t : FVec Ideal S256x512 .bf16) (n : ℕ) (v : Vec Ideal S1x512 .i32) : rowM mis t n v
    = shapeCast S1x512 (addi (shapeCast S512 v shapeCasts_S1x512_S512) (fptosi 32 (cols (taken t mis n)))) shapeCasts_S512_S1x512 := by
  unfold rowM taken
  split
  · rw [if_pos rfl]
  · rename_i h; rw [if_neg h]

/-- What the row of counts grows by. -/
def countRow (t : FVec Ideal S256x512 .bf16) (n : ℕ) : IVec S512 32 :=
  if n = 18 then broadcast S512 256#32 else fptosi 32 (cols (only t (broadcast S256x512 (Scalar.ofBits .bf16 0x3F80#16)) n))

theorem rowG_eq (t : FVec Ideal S256x512 .bf16) (n : ℕ) (v : Vec Ideal S1x512 .i32) : rowG t n v
    = shapeCast S1x512 (addi (shapeCast S512 v shapeCasts_S1x512_S512) (countRow t n)) shapeCasts_S512_S1x512 := by
  unfold rowG countRow
  split
  · rw [if_pos rfl]
  · rename_i h; rw [if_neg h]

/-- A row's own index. -/
theorem ld_row {e : EltTy} (xs : Vec Ideal S19x512 e) (c : Fin 19) (l : Fin 512) :
    View.ld xs (rowR c.val c.isLt) (ix2 0 l) = xs (ix2 c l) := by
  refine congrArg xs ?_
  funext a
  apply Fin.ext
  fin_cases a
  · show c.val + 1 * 0 = c.val; omega
  · show 0 + 1 * l.val = l.val; omega

theorem addS (hK : ∀ (r : Fin 256) (l : Fin 512), K r.val l < 19) (xs : Vec Ideal S19x512 .f32) (c : Fin 19) (l : Fin 512) :
    update (rowS (ceV A K) (tV K)) xs (ix2 c l) = xs (ix2 c l) + ((sumS A K c.val l : ℝ) : EReal) := by
  show rowS (ceV A K) (tV K) c.val (View.ld xs (rowR c.val c.isLt)) (ix2 0 l) = _
  rw [rowS_eq]
  have e1 : cols (taken (tV K) (ceV A K) c.val) (ix1 l) = ((sumS A K c.val l : ℝ) : EReal) := by
    rw [cols_at, sumS, ← coe_sum]
    refine Finset.sum_congr rfl fun r _ => ?_
    rw [taken_at K hK _ _ c.isLt]
    split
    · rfl
    · rfl
  rw [← e1, ← ld_row xs c l]
  generalize View.ld xs (rowR c.val c.isLt) = v
  generalize cols (taken (tV K) (ceV A K) c.val) = w
  pointwise

theorem addM (hK : ∀ (r : Fin 256) (l : Fin 512), K r.val l < 19) (xs : Vec Ideal S19x512 .i32) (c : Fin 19) (l : Fin 512) :
    update (rowM (misV A K) (tV K)) xs (ix2 c l) = IntOp.addi (xs (ix2 c l)) (BitVec.ofNat 32 (cntM A K c.val l)) := by
  show rowM (misV A K) (tV K) c.val (View.ld xs (rowR c.val c.isLt)) (ix2 0 l) = _
  rw [rowM_eq]
  have e1 : cols (taken (tV K) (misV A K) c.val) (ix1 l) = (((cntM A K c.val l : ℕ) : ℝ) : EReal) := by
    rw [cols_at, cntM, Nat.cast_sum, ← coe_sum]
    refine Finset.sum_congr rfl fun r _ => ?_
    rw [taken_at K hK _ _ c.isLt]
    split
    · rfl
    · simp
  rw [← fptosi_nat _ (cntM_le A K c.val l), ← e1, ← ld_row xs c l]
  generalize View.ld xs (rowR c.val c.isLt) = v
  generalize cols (taken (tV K) (misV A K) c.val) = w
  pointwise
  rfl

theorem addG (hK : ∀ (r : Fin 256) (l : Fin 512), K r.val l < 19) (xs : Vec Ideal S19x512 .i32) (c : Fin 19) (l : Fin 512) :
    update (rowG (tV K)) xs (ix2 c l) = IntOp.addi (xs (ix2 c l)) (BitVec.ofNat 32 (cntG K c.val l)) := by
  show rowG (tV K) c.val (View.ld xs (rowR c.val c.isLt)) (ix2 0 l) = _
  rw [rowG_eq]
  have e1 : countRow (tV K) c.val (ix1 l) = BitVec.ofNat 32 (cntG K c.val l) := by
    unfold countRow
    by_cases h : c.val = 18
    · have e : cntG K c.val l = 256 := by
        unfold cntG
        rw [Finset.sum_congr rfl fun r _ => if_pos (show takes c.val _ from Or.inl h)]
        simp
      rw [if_pos h, e]
      rfl
    · rw [if_neg h, ← fptosi_nat _ (cntG_le K c.val l)]
      show Ideal.fptosi 32 (cols (only (tV K) (broadcast S256x512 (Scalar.ofBits .bf16 0x3F80#16)) c.val) (ix1 l)) = _
      congr 1
      rw [cols_at, cntG, Nat.cast_sum, ← coe_sum]
      refine Finset.sum_congr rfl fun r _ => ?_
      have := taken_at K hK (broadcast S256x512 (Scalar.ofBits .bf16 0x3F80#16)) c.val c.isLt r l
      rw [taken, if_neg h] at this
      rw [this]
      split
      · show Ideal.ofBits .bf16 0x3F80#16 = _
        rw [Ideal.ofBits_one_bf16]; simp
      · simp
  rw [← e1, ← ld_row xs c l]
  generalize View.ld xs (rowR c.val c.isLt) = v
  generalize countRow (tV K) c.val = w
  pointwise

end

end Cert.KernelIdeal.Hand

end
-- ==== Proof.KPoints.lean ====
module

public import proofs.«01_k».proof.Proof.KAccA
public import proofs.«01_k».proof.Proof.KAccC
public import proofs.«01_k».proof.Proof.KCols
public import proofs.«01_k».proof.Proof.Gen.KernelIdeal.Frame
public import Idealize.ShloMosaic.Lib.Pipeline.ValueKit

/-! What every kind of grid point leaves in the three accumulators and in the output block, as an update of what it found. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- What the last point reads back of an accumulator is what its pieces hold. -/
theorem back_eq {F : FTy → Type} [FloatOps F] [Named F] {e : EltTy} (arg : Memref sig .tc .vmem S19x512 e) (L : List (View.Piece (Elt F) S19x512 e)) : back arg L = View.canon L := by
  rw [back, View.readCov_eq_canon']
  exact View.ld_unit_lit' inb_S19x512_S19x512_0_0 (View.canon L) (by decide)

/-- A block stored at once holds what was stored. -/
theorem canon_out (v : FVec Ideal S8x128 .f32) :
    View.canon (Val := Elt Ideal) (s := S8x128) (e := .f32) [⟨Rect.unit (s := S8x128) ![0, 0] S8x128.size inb_S8x128_S8x128_0_0, v⟩] = v :=
  View.canon_cons_unit_lit' (Val := Elt Ideal) (S := S8x128) (e := .f32) inb_S8x128_S8x128_0_0 v [] (by decide)

section
variable (c : Dev nD) (i : grid0.Coords) (arg2 : Memref sig .tc .vmem S1x19x256x512 .f32) (harg2 : arg2.IsWhole)
  (arg3 : Memref sig .tc .vmem S1x256x512 .i32) (harg3 : arg3.IsWhole) (arg4 : Memref sig .tc .vmem S8x128 .f32) (harg4 : arg4.IsWhole)
  (arg5 : Memref sig .tc .vmem S19x512 .f32) (harg5 : arg5.IsWhole) (arg6 : Memref sig .tc .vmem S19x512 .i32) (harg6 : arg6.IsWhole)
  (arg7 : Memref sig .tc .vmem S19x512 .i32) (harg7 : arg7.IsWhole) (arg8 : Memref sig .tc .vmem S256x512 .bf16) (harg8 : arg8.IsWhole)
  (arg9 : Memref sig .tc .vmem S256x512 .bf16) (harg9 : arg9.IsWhole) (arg10 : Memref sig .tc .vmem S256x512 .bf16) (harg10 : arg10.IsWhole)
  (x0 : Vec Ideal S1x19x256x512 .f32) (x1 : Vec Ideal S1x256x512 .i32) (xs0 : Vec Ideal S19x512 .f32) (xs1 : Vec Ideal S19x512 .i32) (xs2 : Vec Ideal S19x512 .i32)
  (A : ℕ → ℕ → Fin 512 → ℝ) (K : ℕ → Fin 512 → ℕ)
  (hA : ∀ (c : Fin 19) (r : Fin 256) (l : Fin 512), x0 (ix4 0 c r l) = ((A c.val r.val l : ℝ) : EReal))
  (hK : ∀ (r : Fin 256) (l : Fin 512), K r.val l < 19 ∧ x1 (ix3 0 r l) = BitVec.ofNat 32 (K r.val l))

section
variable (hc0 : cond0_0 i) (hc1 : ¬cond0_1 i)
include hA hK
theorem leftA_S : sout0_A_0 c i arg2 harg2 arg3 harg3 arg4 harg4 arg5 harg5 arg6 harg6 arg7 harg7 arg8 harg8 arg9 harg9 arg10 harg10 hc0 hc1 x0 x1
    = update (rowS (ceV A K) (tV K)) (k0_pay13 (F := Ideal)) := by
  rw [sout0_A_0, accA_S, tile_ceA, tile_tA, ce_tile arg2 harg2 arg3 harg3 x0 x1 A K hA hK, t_tile arg3 harg3 x1 K hK, ← canon_pushes arg5]
  exact funext fun y => View.read_writes_junk_apply_eq_canon _ y _
theorem leftA_G : sout0_A_1 c i arg2 harg2 arg3 harg3 arg4 harg4 arg5 harg5 arg6 harg6 arg7 harg7 arg8 harg8 arg9 harg9 arg10 harg10 hc0 hc1 x0 x1
    = update (rowG (tV K)) k0_pay14 := by
  rw [sout0_A_1, accA_G, tile_tA, t_tile arg3 harg3 x1 K hK, ← canon_pushes arg6]
  exact funext fun y => View.read_writes_junk_apply_eq_canon _ y _
theorem leftA_M : sout0_A_2 c i arg2 harg2 arg3 harg3 arg4 harg4 arg5 harg5 arg6 harg6 arg7 harg7 arg8 harg8 arg9 harg9 arg10 harg10 hc0 hc1 x0 x1
    = update (rowM (misV A K) (tV K)) k0_pay15 := by
  rw [sout0_A_2, accA_M, tile_misA, tile_tA, mis_tile arg2 harg2 arg3 harg3 x0 x1 A K hA hK, t_tile arg3 harg3 x1 K hK, ← canon_pushes arg7]
  exact funext fun y => View.read_writes_junk_apply_eq_canon _ y _
end

section
variable (hc0 : ¬cond0_0 i) (hc1 : ¬cond0_1 i)
include hA hK
theorem leftB_S : sout0_B_0 c i arg2 harg2 arg3 harg3 arg4 harg4 arg5 harg5 arg6 harg6 arg7 harg7 arg8 harg8 arg9 harg9 arg10 harg10 hc0 hc1 x0 x1 xs0 xs1 xs2
    = update (rowS (ceV A K) (tV K)) xs0 := by
  rw [sout0_B_0, accB_S, tile_ceB, tile_tB, ce_tile arg2 harg2 arg3 harg3 x0 x1 A K hA hK, t_tile arg3 harg3 x1 K hK, ← canon_stackB' arg5 harg5]
  exact funext fun y => View.read_writes_junk_apply_eq_canon _ y _
theorem leftB_G : sout0_B_1 c i arg2 harg2 arg3 harg3 arg4 harg4 arg5 harg5 arg6 harg6 arg7 harg7 arg8 harg8 arg9 harg9 arg10 harg10 hc0 hc1 x0 x1 xs0 xs1 xs2
    = update (rowG (tV K)) xs1 := by
  rw [sout0_B_1, accB_G, tile_tB, t_tile arg3 harg3 x1 K hK, ← canon_stackB' arg6 harg6]
  exact funext fun y => View.read_writes_junk_apply_eq_canon _ y _
theorem leftB_M : sout0_B_2 c i arg2 harg2 arg3 harg3 arg4 harg4 arg5 harg5 arg6 harg6 arg7 harg7 arg8 harg8 arg9 harg9 arg10 harg10 hc0 hc1 x0 x1 xs0 xs1 xs2
    = update (rowM (misV A K) (tV K)) xs2 := by
  rw [sout0_B_2, accB_M, tile_misB, tile_tB, mis_tile arg2 harg2 arg3 harg3 x0 x1 A K hA hK, t_tile arg3 harg3 x1 K hK, ← canon_stackB' arg7 harg7]
  exact funext fun y => View.read_writes_junk_apply_eq_canon _ y _
end

section
variable (hc0 : ¬cond0_0 i) (hc1 : cond0_1 i)
include hA hK
theorem leftC : out0_C_2 c i arg2 harg2 arg3 harg3 arg4 harg4 arg5 harg5 arg6 harg6 arg7 harg7 arg8 harg8 arg9 harg9 arg10 harg10 hc0 hc1 x0 x1 xs0 xs1 xs2
    = finish (update (rowS (ceV A K) (tV K)) xs0) (update (rowG (tV K)) xs1) (update (rowM (misV A K) (tV K)) xs2) := by
  have hS : back arg5 _ = update (rowS (ceV A K) (tV K)) xs0 := (back_eq arg5 _).trans ((congrArg View.canon (accC_S c i arg2 harg2 arg3 harg3 arg4 harg4 arg5 harg5 arg6 harg6 arg7 harg7 arg8 harg8 arg9 harg9 arg10 harg10 x0 x1 hc0 hc1 xs0 xs1 xs2)).trans (by
    rw [tile_ceC, tile_tC, ce_tile arg2 harg2 arg3 harg3 x0 x1 A K hA hK, t_tile arg3 harg3 x1 K hK, canon_stackB' arg5 harg5]))
  have hG : back arg6 _ = update (rowG (tV K)) xs1 := (back_eq arg6 _).trans ((congrArg View.canon (accC_G c i arg2 harg2 arg3 harg3 arg4 harg4 arg5 harg5 arg6 harg6 arg7 harg7 arg8 harg8 arg9 harg9 arg10 harg10 x0 x1 hc0 hc1 xs0 xs1 xs2)).trans (by
    rw [tile_tC, t_tile arg3 harg3 x1 K hK, canon_stackB' arg6 harg6]))
  have hM : back arg7 _ = update (rowM (misV A K) (tV K)) xs2 := (back_eq arg7 _).trans ((congrArg View.canon (accC_M c i arg2 harg2 arg3 harg3 arg4 harg4 arg5 harg5 arg6 harg6 arg7 harg7 arg8 harg8 arg9 harg9 arg10 harg10 x0 x1 hc0 hc1 xs0 xs1 xs2)).trans (by
    rw [tile_misC, tile_tC, mis_tile arg2 harg2 arg3 harg3 x0 x1 A K hA hK, t_tile arg3 harg3 x1 K hK, canon_stackB' arg7 harg7]))
  rw [out0_C_2, outC c i arg2 harg2 arg3 harg3 arg4 harg4 arg5 harg5 arg6 harg6 arg7 harg7 arg8 harg8 arg9 harg9 arg10 harg10 x0 x1 hc0 hc1 xs0 xs1 xs2, hS, hG, hM]
  funext y
  exact (View.read_writes_junk_apply_eq_canon _ y _).trans (congrFun (canon_out _) y)
end
end

end Cert.KernelIdeal.Hand

end
-- ==== Proof.KGrid.lean ====
module

public import proofs.«01_k».proof.Proof.KPoints

/-! The accumulators over the sixteen grid points: after each, the sums over the pixels of the blocks seen so far. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- The image of point `n`'s block. -/
def img (n : ℕ) : Fin 8 := Fin.ofNat 8 (n / 2)
/-- The image row of row `r` of point `n`'s block. -/
def pix (n r : ℕ) : Fin 512 := Fin.ofNat 512 (n % 2 * 256 + r)

theorem idx : ∀ t : Fin cfg0.N, win0_0.index t = ![t.val / 2, 0, t.val % 2, 0] ∧ win0_1.index t = ![t.val / 2, t.val % 2, 0] :=
  (by decide +kernel : ∀ t : Fin grid0.N, _)

section
variable (m : (ℓ : Loc nD τ sig) → Buf (Elt Ideal) ℓ) (c : Dev nD)

theorem blk0 (t : Fin cfg0.N) (k : Fin 19) (r : Fin 256) (l : Fin 512) :
    (show FVec Ideal S1x19x256x512 .f32 from iblk m c 0 t) (ix4 0 k r l)
      = (show FVec Ideal S8x19x512x512 .f32 from m ((c : Thread nD τ).loc main_arg0)) (ix4 (img t.val) k (pix t.val r.val) l) := by
  have ht : t.val < 16 := lt_of_lt_of_eq t.isLt (show cfg0.N = 16 from N_0)
  have h1 : (img t.val).val = t.val / 2 := by show t.val / 2 % 8 = _; omega
  have h2 : (pix t.val r.val).val = t.val % 2 * 256 + r.val := by show (t.val % 2 * 256 + r.val) % 512 = _; omega
  blk_point [iblk, V, idx t]
theorem blk1 (t : Fin cfg0.N) (r : Fin 256) (l : Fin 512) :
    (show IVec S1x256x512 32 from iblk m c 1 t) (ix3 0 r l)
      = (show IVec S8x512x512 32 from m ((c : Thread nD τ).loc main_arg1)) (ix3 (img t.val) (pix t.val r.val) l) := by
  have ht : t.val < 16 := lt_of_lt_of_eq t.isLt (show cfg0.N = 16 from N_0)
  have h1 : (img t.val).val = t.val / 2 := by show t.val / 2 % 8 = _; omega
  have h2 : (pix t.val r.val).val = t.val % 2 * 256 + r.val := by show (t.val % 2 * 256 + r.val) % 512 = _; omega
  blk_point [iblk, V, idx t]

variable (u : Fin 8 → Fin 512 → Fin 512 → ℕ → ℝ) (k : Fin 8 → Fin 512 → Fin 512 → ℕ)

/-- Point `n`'s logits and targets. -/
def ptA (n : ℕ) : ℕ → ℕ → Fin 512 → ℝ := fun ch r l => u (img n) (pix n r) l ch
def ptK (n : ℕ) : ℕ → Fin 512 → ℕ := fun r l => k (img n) (pix n r) l

/-- The sums over the first `n` points. -/
def accS (n c : ℕ) (l : Fin 512) : ℝ := ∑ s ∈ Finset.range n, sumS (ptA u s) (ptK k s) c l
def accG (n c : ℕ) (l : Fin 512) : ℕ := ∑ s ∈ Finset.range n, cntG (ptK k s) c l
def accM (n c : ℕ) (l : Fin 512) : ℕ := ∑ s ∈ Finset.range n, cntM (ptA u s) (ptK k s) c l

/-- An accumulator holding real sums, one holding counts. -/
def Reals (f : ℕ → Fin 512 → ℝ) (x : Vec Ideal S19x512 .f32) : Prop := ∀ (a : Fin 19) (l : Fin 512), x (ix2 a l) = ((f a.val l : ℝ) : EReal)
def Words (f : ℕ → Fin 512 → ℕ) (x : Vec Ideal S19x512 .i32) : Prop := ∀ (a : Fin 19) (l : Fin 512), x (ix2 a l) = BitVec.ofNat 32 (f a.val l)

theorem zeroS : Reals (accS u k 0) (k0_pay13 (F := Ideal)) := by
  intro a l
  have : (k0_pay13 (F := Ideal)) (ix2 a l) = (0 : EReal) := by pointwise [k0_pay13]
  rw [this]; simp [accS]
theorem zeroG : Words (accG k 0) k0_pay14 := by
  intro a l
  have : k0_pay14 (ix2 a l) = 0#32 := by pointwise [k0_pay14]
  rw [this]; simp [accG]
theorem zeroM : Words (accM u k 0) k0_pay15 := by
  intro a l
  have : k0_pay15 (ix2 a l) = 0#32 := by pointwise [k0_pay15]
  rw [this]; simp [accM]

variable (hu : ∀ b h w (ch : Fin 19), (show FVec Ideal S8x19x512x512 .f32 from m ((c : Thread nD τ).loc main_arg0)) (ix4 b ch h w) = ((u b h w ch.val : ℝ) : EReal))
  (hk : ∀ b h w, k b h w < 19 ∧ (show IVec S8x512x512 32 from m ((c : Thread nD τ).loc main_arg1)) (ix3 b h w) = BitVec.ofNat 32 (k b h w))

include hk in
theorem stepS (n : ℕ) (x : Vec Ideal S19x512 .f32) (h : Reals (accS u k n) x) : Reals (accS u k (n + 1)) (update (rowS (ceV (ptA u n) (ptK k n)) (tV (ptK k n))) x) := by
  intro a l
  rw [addS _ _ (fun r l => (hk _ _ _).1), h, ← EReal.coe_add, accS, accS, Finset.sum_range_succ]
include hk in
theorem stepG (n : ℕ) (x : Vec Ideal S19x512 .i32) (h : Words (accG k n) x) : Words (accG k (n + 1)) (update (rowG (tV (ptK k n))) x) := by
  intro a l
  rw [addG _ (fun r l => (hk _ _ _).1), h, accG, accG, Finset.sum_range_succ, BitVec.ofNat_add]; rfl
include hk in
theorem stepM (n : ℕ) (x : Vec Ideal S19x512 .i32) (h : Words (accM u k n) x) : Words (accM u k (n + 1)) (update (rowM (misV (ptA u n) (ptK k n)) (tV (ptK k n))) x) := by
  intro a l
  rw [addM _ _ (fun r l => (hk _ _ _).1), h, accM, accM, Finset.sum_range_succ, BitVec.ofNat_add]; rfl

include hu in
theorem ptA_eq (t : Fin cfg0.N) (a : Fin 19) (r : Fin 256) (l : Fin 512) :
    (show FVec Ideal S1x19x256x512 .f32 from iblk m c 0 t) (ix4 0 a r l) = ((ptA u t.val a.val r.val l : ℝ) : EReal) := (blk0 m c t a r l).trans (hu _ _ _ _)
include hk in
theorem ptK_eq (t : Fin cfg0.N) (r : Fin 256) (l : Fin 512) :
    ptK k t.val r.val l < 19 ∧ (show IVec S1x256x512 32 from iblk m c 1 t) (ix3 0 r l) = BitVec.ofNat 32 (ptK k t.val r.val l) := ⟨(hk _ _ _).1, (blk1 m c t r l).trans (hk _ _ _).2⟩

/-- What the accumulators hold after the first `n` points. -/
def Holds (n : ℕ) (o : Vec Ideal S8x128 .f32 × Vec Ideal S19x512 .f32 × Vec Ideal S19x512 .i32 × Vec Ideal S19x512 .i32) : Prop :=
  Reals (accS u k n) o.2.1 ∧ Words (accG k n) o.2.2.1 ∧ Words (accM u k n) o.2.2.2

theorem Reals.of {f : ℕ → Fin 512 → ℝ} {x y : Vec Ideal S19x512 .f32} (h : x = y) (hy : Reals f y) : Reals f x := h ▸ hy
theorem Words.of {f : ℕ → Fin 512 → ℕ} {x y : Vec Ideal S19x512 .i32} (h : x = y) (hy : Words f y) : Words f x := h ▸ hy

include hu hk in
theorem firstS (t : Fin cfg0.N) (h0 : t.val = 0) : Reals (accS u k (t.val + 1)) (outsAt0 m c t.val t.isLt).2.1 := by
  have z := zeroS u k
  rw [← h0] at z
  have e := congrArg (fun o => o.2.1) (outsAt0_A m c t (by omega) (by omega))
  dsimp only at e
  exact Reals.of (e.trans (leftA_S _ _ _ _ _ _ _ _ _ _ _ _ _ _ _ _ _ _ _ _ _ _ (ptA u t.val) (ptK k t.val) (ptA_eq m c u hu t) (ptK_eq m c k hk t) _ _)) (stepS m c u k hk t.val _ z)
include hu hk in
theorem nextS (t : Fin cfg0.N) (h0 : t.val ≠ 0) (h1 : t.val < 15)
    (h : Reals (accS u k t.val) (outsAt0 m c (t.val - 1) (Nat.lt_of_le_of_lt (Nat.sub_le _ _) t.isLt)).2.1) : Reals (accS u k (t.val + 1)) (outsAt0 m c t.val t.isLt).2.1 := by
  have e := congrArg (fun o => o.2.1) (outsAt0_B m c t (by omega) (by omega))
  dsimp only at e
  exact Reals.of (e.trans (leftB_S _ _ _ _ _ _ _ _ _ _ _ _ _ _ _ _ _ _ _ _ _ _ _ _ _ (ptA u t.val) (ptK k t.val) (ptA_eq m c u hu t) (ptK_eq m c k hk t) _ _)) (stepS m c u k hk t.val _ h)
include hu hk in
theorem firstG (t : Fin cfg0.N) (h0 : t.val = 0) : Words (accG k (t.val + 1)) (outsAt0 m c t.val t.isLt).2.2.1 := by
  have z := zeroG k
  rw [← h0] at z
  have e := congrArg (fun o => o.2.2.1) (outsAt0_A m c t (by omega) (by omega))
  dsimp only at e
  exact Words.of (e.trans (leftA_G _ _ _ _ _ _ _ _ _ _ _ _ _ _ _ _ _ _ _ _ _ _ (ptA u t.val) (ptK k t.val) (ptA_eq m c u hu t) (ptK_eq m c k hk t) _ _)) (stepG m c k hk t.val _ z)
include hu hk in
theorem nextG (t : Fin cfg0.N) (h0 : t.val ≠ 0) (h1 : t.val < 15)
    (h : Words (accG k t.val) (outsAt0 m c (t.val - 1) (Nat.lt_of_le_of_lt (Nat.sub_le _ _) t.isLt)).2.2.1) : Words (accG k (t.val + 1)) (outsAt0 m c t.val t.isLt).2.2.1 := by
  have e := congrArg (fun o => o.2.2.1) (outsAt0_B m c t (by omega) (by omega))
  dsimp only at e
  exact Words.of (e.trans (leftB_G _ _ _ _ _ _ _ _ _ _ _ _ _ _ _ _ _ _ _ _ _ _ _ _ _ (ptA u t.val) (ptK k t.val) (ptA_eq m c u hu t) (ptK_eq m c k hk t) _ _)) (stepG m c k hk t.val _ h)
include hu hk in
theorem firstM (t : Fin cfg0.N) (h0 : t.val = 0) : Words (accM u k (t.val + 1)) (outsAt0 m c t.val t.isLt).2.2.2 := by
  have z := zeroM u k
  rw [← h0] at z
  have e := congrArg (fun o => o.2.2.2) (outsAt0_A m c t (by omega) (by omega))
  dsimp only at e
  exact Words.of (e.trans (leftA_M _ _ _ _ _ _ _ _ _ _ _ _ _ _ _ _ _ _ _ _ _ _ (ptA u t.val) (ptK k t.val) (ptA_eq m c u hu t) (ptK_eq m c k hk t) _ _)) (stepM m c u k hk t.val _ z)
include hu hk in
theorem nextM (t : Fin cfg0.N) (h0 : t.val ≠ 0) (h1 : t.val < 15)
    (h : Words (accM u k t.val) (outsAt0 m c (t.val - 1) (Nat.lt_of_le_of_lt (Nat.sub_le _ _) t.isLt)).2.2.2) : Words (accM u k (t.val + 1)) (outsAt0 m c t.val t.isLt).2.2.2 := by
  have e := congrArg (fun o => o.2.2.2) (outsAt0_B m c t (by omega) (by omega))
  dsimp only at e
  exact Words.of (e.trans (leftB_M _ _ _ _ _ _ _ _ _ _ _ _ _ _ _ _ _ _ _ _ _ _ _ _ _ (ptA u t.val) (ptK k t.val) (ptA_eq m c u hu t) (ptK_eq m c k hk t) _ _)) (stepM m c u k hk t.val _ h)

include hu hk in
theorem holds (n : ℕ) (hn : n < cfg0.N) (h15 : n < 15) : Holds u k (n + 1) (outsAt0 m c n hn) := by
  induction n with
  | zero => exact ⟨firstS m c u k hu hk ⟨0, hn⟩ rfl, firstG m c u k hu hk ⟨0, hn⟩ rfl, firstM m c u k hu hk ⟨0, hn⟩ rfl⟩
  | succ n ih =>
    obtain ⟨a, b, d⟩ := ih (by omega) (by omega)
    exact ⟨nextS m c u k hu hk ⟨n + 1, hn⟩ (Nat.succ_ne_zero n) h15 a, nextG m c u k hu hk ⟨n + 1, hn⟩ (Nat.succ_ne_zero n) h15 b,
      nextM m c u k hu hk ⟨n + 1, hn⟩ (Nat.succ_ne_zero n) h15 d⟩

include hu hk in
/-- After the last point the output block is the finish of accumulators holding the sums over all sixteen. -/
theorem last (t : Fin cfg0.N) (h15 : t.val = 15) : ∃ s g q, (outsAt0 m c t.val t.isLt).1 = finish s g q
    ∧ Reals (accS u k 16) s ∧ Words (accG k 16) g ∧ Words (accM u k 16) q := by
  have H := holds m c u k hu hk (t.val - 1) (Nat.lt_of_le_of_lt (Nat.sub_le _ _) t.isLt) (by omega)
  have e1 : t.val - 1 + 1 = t.val := by omega
  have e2 : t.val + 1 = 16 := by omega
  rw [e1] at H
  obtain ⟨a, b, d⟩ := H
  have A := stepS m c u k hk t.val _ a
  have B := stepG m c k hk t.val _ b
  have D := stepM m c u k hk t.val _ d
  rw [e2] at A B D
  have e := congrArg (fun o => o.1) (outsAt0_C m c t (by omega) (by omega))
  dsimp only at e
  exact ⟨_, _, _, e.trans (leftC _ _ _ _ _ _ _ _ _ _ _ _ _ _ _ _ _ _ _ _ _ _ _ _ _ (ptA u t.val) (ptK k t.val) (ptA_eq m c u hu t) (ptK_eq m c k hk t) _ _), A, B, D⟩

end
end Cert.KernelIdeal.Hand

end
-- ==== Proof.KFinish.lean ====
module

public import proofs.«01_k».proof.Proof.KGrid
public import Idealize.ShloMosaic.Lib.WordSum

/-! The finish: from the accumulators' sums to the output block. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- A vector over the classes that holds reals. -/
def Vals (f : ℕ → ℝ) (x : FVec Ideal S19 .f32) : Prop := ∀ a : Fin 19, x (ix1 a) = ((f a.val : ℝ) : EReal)

theorem pay6_vals (s : Vec Ideal S19x512 .f32) (f : ℕ → Fin 512 → ℝ) (hs : Reals f s) : Vals (fun a => ∑ l, f a l) (k0_pay6 s) := by
  intro a
  have : k0_pay6 s (ix1 a) = ∑ l : Fin 512, s (ix2 a l) := by pointwise [k0_pay6]
  rw [this, ← coe_sum]
  exact Finset.sum_congr rfl fun l _ => hs a l

theorem word_sum (g : Vec Ideal S19x512 .i32) (f : ℕ → Fin 512 → ℕ) (hg : Words f g) (a : Fin 19) (hb : ∑ l, f a.val l < 2 ^ 31) :
    (multiReductionI .add [1] S19 g 0#32 reduces_S19x512_S19 rfl (ix1 a)).toInt = ((∑ l, f a.val l : ℕ) : ℤ) := by
  have hl : ∀ l, (g (ix2 a l)).toNat = f a.val l := fun l => by
    rw [hg, BitVec.toNat_ofNat, Nat.mod_eq_of_lt]
    have := Finset.single_le_sum (f := fun l => f a.val l) (fun _ _ => Nat.zero_le _) (Finset.mem_univ l)
    omega
  have e : (multiReductionI .add [1] S19 g 0#32 reduces_S19x512_S19 rfl (ix1 a)).toNat = ∑ l, f a.val l := by
    have h2 : ∑ i ∈ Finset.univ.filter (fun i => reduces_S19x512_S19.drop i = ix1 a), (g i).toNat = ∑ l, f a.val l := by
      rw [Shape.Reduces.sum_filter_drop_single]
      refine Finset.sum_congr rfl fun l _ => (congrArg (fun i => (g i).toNat) ?_).trans (hl l)
      funext b
      fin_cases b <;> rfl
    exact (WordSum.toNat_multiReductionI_add g reduces_S19x512_S19 rfl (ix1 a) (by rw [h2]; omega)).trans h2
  rw [BitVec.toInt_eq_toNat_of_lt (by omega), e]

theorem pay4_vals (g : Vec Ideal S19x512 .i32) (f : ℕ → Fin 512 → ℕ) (hg : Words f g) (hb : ∀ a : Fin 19, ∑ l, f a.val l < 2 ^ 31) :
    Vals (fun a => ((∑ l, f a l : ℕ) : ℝ)) (k0_pay4 (F := Ideal) g) := by
  intro a
  show (((multiReductionI .add [1] S19 g 0#32 reduces_S19x512_S19 rfl (ix1 a)).toInt : ℝ) : EReal) = _
  rw [word_sum g f hg a (hb a), Int.cast_natCast]
theorem pay5_vals (g : Vec Ideal S19x512 .i32) (f : ℕ → Fin 512 → ℕ) (hg : Words f g) (hb : ∀ a : Fin 19, ∑ l, f a.val l < 2 ^ 31) :
    Vals (fun a => ((∑ l, f a l : ℕ) : ℝ)) (k0_pay5 (F := Ideal) g) := pay4_vals g f hg hb

/-- The last class's value, and the others' sum. -/
def lastOf (x : FVec Ideal S19 .f32) : Ideal .f32 :=
  extractAt ![0, 0] (shapeCast S1x1 (multiReduction .add [1] S1 (shapeCast S1x19 (select k0_pay7 x (broadcast S19 (Scalar.ofBits .f32 0x00000000#32))) shapeCasts_S19_S1x19) 0x00000000#32 reduces_S1x19_S1 (.inl rfl) rfl) shapeCasts_S1_S1x1) inpos_S1x1_p0_0
def restOf (x : FVec Ideal S19 .f32) : Ideal .f32 :=
  extractAt ![0, 0] (shapeCast S1x1 (multiReduction .add [1] S1 (shapeCast S1x19 (select k0_pay7 (broadcast S19 (Scalar.ofBits .f32 0x00000000#32)) x) shapeCasts_S19_S1x19) 0x00000000#32 reduces_S1x19_S1 (.inl rfl) rfl) shapeCasts_S1_S1x1) inpos_S1x1_p0_0

theorem pay7_at (a : Fin 19) : k0_pay7 (ix1 a) = BitVec.ofBool (decide (a.val = 18)) := by
  revert a; decide +kernel

theorem pickLast (a : Fin 19) (v w : ℝ) (x y : EReal) (hx : x = ((v : ℝ) : EReal)) (hy : y = ((w : ℝ) : EReal)) :
    Scalar.select (k0_pay7 (ix1 a)) x y = (((if a.val = 18 then v else w : ℝ)) : EReal) := by
  rw [pay7_at, hx, hy]
  by_cases h : a.val = 18
  · rw [decide_eq_true h, if_pos h]; rfl
  · rw [decide_eq_false h, if_neg h]; rfl

theorem lastOf_eq (x : FVec Ideal S19 .f32) (f : ℕ → ℝ) (hx : Vals f x) : lastOf x = ((f 18 : ℝ) : EReal) := by
  have : lastOf x = ∑ a : Fin 19, Scalar.select (k0_pay7 (ix1 a)) (x (ix1 a)) (Ideal.ofBits .f32 0x00000000#32) := by
    unfold lastOf
    pointwise
  rw [this, Finset.sum_congr rfl fun a _ => pickLast a (f a.val) 0 _ _ (hx a) Ideal.ofBits_zero_f32, coe_sum,
    Fin.sum_univ_eq_sum_range (fun a => if a = 18 then f a else 0) 19]
  simp
theorem restOf_eq (x : FVec Ideal S19 .f32) (f : ℕ → ℝ) (hx : Vals f x) : restOf x = ((∑ a ∈ Finset.range 18, f a : ℝ) : EReal) := by
  have : restOf x = ∑ a : Fin 19, Scalar.select (k0_pay7 (ix1 a)) (Ideal.ofBits .f32 0x00000000#32) (x (ix1 a)) := by
    unfold restOf
    pointwise
  rw [this, Finset.sum_congr rfl fun a _ => pickLast a 0 (f a.val) _ _ Ideal.ofBits_zero_f32 (hx a), coe_sum,
    Fin.sum_univ_eq_sum_range (fun a => if a = 18 then 0 else f a) 19, Finset.sum_range_succ, if_pos rfl, add_zero,
    Finset.sum_congr rfl fun a ha => if_neg (Nat.ne_of_lt (Finset.mem_range.mp ha))]

/-- The last class's value corrected: its row took every pixel. -/
def fixed (f : ℕ → ℝ) (a : ℕ) : ℝ := if a = 18 then f 18 - ∑ b ∈ Finset.range 18, f b else f a
def fix (x : FVec Ideal S19 .f32) : FVec Ideal S19 .f32 := select k0_pay7 (broadcast S19 (Scalar.subf (lastOf x) (restOf x))) x
def orOne (x : FVec Ideal S19 .f32) : FVec Ideal S19 .f32 :=
  select (cmpf .ogt x (broadcast S19 (Scalar.ofBits .f32 0x00000000#32))) x (broadcast S19 (Scalar.ofBits .f32 0x3F800000#32))

theorem fix_vals (x : FVec Ideal S19 .f32) (f : ℕ → ℝ) (hx : Vals f x) : Vals (fixed f) (fix x) := by
  intro a
  have e : Scalar.subf (lastOf x) (restOf x) = ((f 18 - ∑ b ∈ Finset.range 18, f b : ℝ) : EReal) := by
    rw [EReal.coe_sub, ← lastOf_eq x f hx, ← restOf_eq x f hx]; rfl
  exact pickLast a _ _ _ _ e (hx a)

theorem orOne_vals (x : FVec Ideal S19 .f32) (f : ℕ → ℝ) (hx : Vals f x) : Vals (fun a => posOr (f a)) (orOne x) := by
  intro a
  show Scalar.select (BitVec.ofBool (decide (Ideal.ofBits .f32 0x00000000#32 < x (ix1 a)))) (x (ix1 a)) (Ideal.ofBits .f32 0x3F800000#32) = ((posOr (f a.val) : ℝ) : EReal)
  rw [Ideal.ofBits_zero_f32, Ideal.ofBits_one_f32, hx a]
  by_cases h : 0 < f a.val
  · rw [decide_eq_true (EReal.coe_pos.mpr h), show posOr (f a.val) = f a.val from if_pos h]; rfl
  · rw [decide_eq_false (fun H => h (EReal.coe_pos.mp H)), show posOr (f a.val) = 1 from if_neg h]; rfl

/-- The weighted sum, divided by the number of pixels. -/
def mean (w x : FVec Ideal S19 .f32) : FVec Ideal S8x128 .f32 :=
  broadcast S8x128 (Scalar.divf (extractAt ![0, 0] (shapeCast S1x1 (multiReduction .add [1] S1 (shapeCast S1x19 (mulf w x) shapeCasts_S19_S1x19) 0x00000000#32 reduces_S1x19_S1 (.inl rfl) rfl) shapeCasts_S1_S1x1) inpos_S1x1_p0_0)
    (Scalar.ofBits .f32 0x4A000000#32))

theorem finish_eq (s : Vec Ideal S19x512 .f32) (g m : Vec Ideal S19x512 .i32) :
    finish s g m = mean (divf (orOne (fix (k0_pay4 m))) (orOne (fix (k0_pay5 g)))) (fix (k0_pay6 s)) := rfl

theorem mean_at (w x : FVec Ideal S19 .f32) (f g : ℕ → ℝ) (hw : Vals f w) (hx : Vals g x) (i : Fin 8) (j : Fin 128) :
    mean w x (ix2 i j) = (((∑ a ∈ Finset.range 19, f a * g a) / 2097152 : ℝ) : EReal) := by
  have : mean w x (ix2 i j) = Ideal.div (∑ a : Fin 19, w (ix1 a) * x (ix1 a)) (Ideal.ofBits .f32 0x4A000000#32) := by
    unfold mean
    pointwise
  rw [this, ofBits_pixels, Finset.sum_congr rfl fun a _ => show w (ix1 a) * x (ix1 a) = ((f a.val * g a.val : ℝ) : EReal) by rw [hw, hx, EReal.coe_mul],
    coe_sum, div_real _ _ (by norm_num), Fin.sum_univ_eq_sum_range (fun a => f a * g a) 19]

theorem finish_at (s : Vec Ideal S19x512 .f32) (g m : Vec Ideal S19x512 .i32) (fs : ℕ → Fin 512 → ℝ) (fg fm : ℕ → Fin 512 → ℕ)
    (hs : Reals fs s) (hg : Words fg g) (hm : Words fm m) (bg : ∀ a : Fin 19, ∑ l, fg a.val l < 2 ^ 31) (bm : ∀ a : Fin 19, ∑ l, fm a.val l < 2 ^ 31)
    (i : Fin 8) (j : Fin 128) :
    finish s g m (ix2 i j) = (((∑ a ∈ Finset.range 19, posOr (fixed (fun a => ((∑ l, fm a l : ℕ) : ℝ)) a) / posOr (fixed (fun a => ((∑ l, fg a l : ℕ) : ℝ)) a)
      * fixed (fun a => ∑ l, fs a l) a) / 2097152 : ℝ) : EReal) := by
  rw [finish_eq]
  have h1 := orOne_vals _ _ (fix_vals _ _ (pay4_vals m fm hm bm))
  have h2 := orOne_vals _ _ (fix_vals _ _ (pay5_vals g fg hg bg))
  have h3 := fix_vals _ _ (pay6_vals s fs hs)
  refine mean_at _ _ (fun a => posOr (fixed (fun a => ((∑ l, fm a l : ℕ) : ℝ)) a) / posOr (fixed (fun a => ((∑ l, fg a l : ℕ) : ℝ)) a)) _ (fun a => ?_) h3 i j
  show Ideal.div _ _ = _
  rw [h1 a, h2 a, div_real _ _ (posOr_pos _)]

end Cert.KernelIdeal.Hand

end
-- ==== Proof.KSums.lean ====
module

public import proofs.«01_k».proof.Proof.KFinish

/-! The sums over the grid points are sums over the image, and the last class's correction leaves its own pixels. -/

@[expose] public section

noncomputable section

namespace Cert.KernelIdeal.Hand

/-- The blocks of the sixteen points are the image, row by row. -/
theorem rows_sum {M : Type*} [AddCommMonoid M] (f : Fin 8 → Fin 512 → M) :
    ∑ s ∈ Finset.range 16, ∑ r : Fin 256, f (img s) (pix s r.val) = ∑ b, ∑ h, f b h := by
  rw [Finset.sum_range, ← Fintype.sum_prod_type', ← Fintype.sum_prod_type']
  refine Finset.sum_bij' (fun x _ => (img x.1.val, pix x.1.val x.2.val))
    (fun y _ => ((⟨2 * y.1.val + y.2.val / 256, by have := y.1.isLt; have := y.2.isLt; omega⟩ : Fin 16), (⟨y.2.val % 256, by omega⟩ : Fin 256)))
    (fun _ _ => Finset.mem_univ _) (fun _ _ => Finset.mem_univ _) ?_ ?_ ?_
  · rintro ⟨s, r⟩ _
    have h1 : (img s.val).val = s.val / 2 := by show s.val / 2 % 8 = _; omega
    have h2 : (pix s.val r.val).val = s.val % 2 * 256 + r.val := by show (s.val % 2 * 256 + r.val) % 512 = _; omega
    ext
    · show 2 * (img s.val).val + (pix s.val r.val).val / 256 = s.val; omega
    · show (pix s.val r.val).val % 256 = r.val; omega
  · rintro ⟨b, h⟩ _
    have := b.isLt
    have := h.isLt
    ext
    · show (2 * b.val + h.val / 256) / 2 % 8 = b.val; omega
    · show ((2 * b.val + h.val / 256) % 2 * 256 + h.val % 256) % 512 = h.val; omega
  · rintro ⟨s, r⟩ _; rfl

theorem grid_sum {M : Type*} [AddCommMonoid M] (f : Fin 8 → Fin 512 → Fin 512 → M) :
    ∑ l : Fin 512, ∑ s ∈ Finset.range 16, ∑ r : Fin 256, f (img s) (pix s r.val) l = ∑ b, ∑ h, ∑ w, f b h w := by
  rw [← rows_sum, Finset.sum_comm]
  exact Finset.sum_congr rfl fun s _ => Finset.sum_comm

section
variable (u : Fin 8 → Fin 512 → Fin 512 → ℕ → ℝ) (k : Fin 8 → Fin 512 → Fin 512 → ℕ) (hk : ∀ b h w, k b h w < 19)

/-- What an accumulator's row holds in all: its class's pixels, the last row every pixel. -/
def rowOf (f : Fin 8 → Fin 512 → Fin 512 → ℝ) (a : ℕ) : ℝ := ∑ b, ∑ h, ∑ w, if takes a (k b h w) then f b h w else 0

theorem rowOf_lt (f : Fin 8 → Fin 512 → Fin 512 → ℝ) (a : ℕ) (ha : a ≠ 18) : rowOf k f a = ofClass k f a :=
  Finset.sum_congr rfl fun b _ => Finset.sum_congr rfl fun h _ => Finset.sum_congr rfl fun w _ =>
    if_congr ⟨fun H => H.resolve_left ha, Or.inr⟩ rfl rfl

include hk in
theorem fixed_rowOf (f : Fin 8 → Fin 512 → Fin 512 → ℝ) (a : ℕ) : fixed (rowOf k f) a = ofClass k f a := by
  by_cases ha : a = 18
  · subst ha
    have e1 := weighted k hk (fun _ => 1) f
    simp only [one_mul] at e1
    have e2 : rowOf k f 18 = ∑ b, ∑ h, ∑ w, f b h w :=
      Finset.sum_congr rfl fun b _ => Finset.sum_congr rfl fun h _ => Finset.sum_congr rfl fun w _ => if_pos (Or.inl rfl)
    rw [fixed, if_pos rfl, e2, ← e1, Finset.sum_range_succ,
      Finset.sum_congr rfl fun b hb => rowOf_lt k f b (Nat.ne_of_lt (Finset.mem_range.mp hb))]
    ring
  · rw [fixed, if_neg ha, rowOf_lt k f a ha]

theorem accS_sum (a : ℕ) : ∑ l, accS u k 16 a l = rowOf k (fun b h w => ceR (u b h w) (k b h w)) a :=
  grid_sum fun b h w => if takes a (k b h w) then ceR (u b h w) (k b h w) else 0
theorem accG_nat (a : ℕ) : ∑ l, accG k 16 a l = ∑ b, ∑ h, ∑ w, if takes a (k b h w) then 1 else 0 :=
  grid_sum fun b h w => if takes a (k b h w) then 1 else 0
theorem accM_nat (a : ℕ) : ∑ l, accM u k 16 a l = ∑ b, ∑ h, ∑ w, if takes a (k b h w) then missR (u b h w) (k b h w) else 0 :=
  grid_sum fun b h w => if takes a (k b h w) then missR (u b h w) (k b h w) else 0
theorem accG_sum (a : ℕ) : ((∑ l, accG k 16 a l : ℕ) : ℝ) = rowOf k (fun _ _ _ => 1) a := by
  rw [accG_nat, rowOf]; push_cast; rfl
theorem accM_sum (a : ℕ) : ((∑ l, accM u k 16 a l : ℕ) : ℝ) = rowOf k (fun b h w => (missR (u b h w) (k b h w) : ℝ)) a := by
  rw [accM_nat, rowOf]; push_cast; rfl

/-- At most as many as there are pixels. -/
theorem few (f : Fin 8 → Fin 512 → Fin 512 → ℕ) (hf : ∀ b h w, f b h w ≤ 1) : ∑ b, ∑ h, ∑ w, f b h w < 2 ^ 31 := by
  have : ∑ b, ∑ h, ∑ w, f b h w ≤ ∑ b : Fin 8, ∑ h : Fin 512, ∑ w : Fin 512, 1 :=
    Finset.sum_le_sum fun b _ => Finset.sum_le_sum fun h _ => Finset.sum_le_sum fun w _ => hf b h w
  simp only [Finset.sum_const, Finset.card_univ, Fintype.card_fin, smul_eq_mul] at this
  omega
theorem accG_lt (a : ℕ) : ∑ l, accG k 16 a l < 2 ^ 31 := by
  rw [accG_nat]; exact few _ fun b h w => by split <;> omega
theorem accM_lt (a : ℕ) : ∑ l, accM u k 16 a l < 2 ^ 31 := by
  rw [accM_nat]; exact few _ fun b h w => by split <;> [exact missR_le _ _; omega]

end

section
open Cert.KernelIdeal Cert.KernelIdeal.Gen Idealize.ShloMosaic Idealize.ShloMosaic.TcCoe
variable (u : Fin 8 → Fin 512 → Fin 512 → ℕ → ℝ) (k : Fin 8 → Fin 512 → Fin 512 → ℕ) (hk : ∀ b h w, k b h w < 19)

include hk in
/-- Of the accumulators' sums over the grid, the finish is the loss. -/
theorem finish_loss (s : Vec Ideal S19x512 .f32) (g q : Vec Ideal S19x512 .i32) (hs : Reals (accS u k 16) s) (hg : Words (accG k 16) g)
    (hq : Words (accM u k 16) q) (i : Fin 8) (j : Fin 128) : finish s g q (ix2 i j) = ((lossR u k : ℝ) : EReal) := by
  rw [finish_at s g q _ _ _ hs hg hq (fun a => accG_lt k a.val) (fun a => accM_lt u k a.val) i j, funext (accS_sum u k), funext (accG_sum k), funext (accM_sum u k)]
  simp only [fixed_rowOf k hk]
  rfl

end

end Cert.KernelIdeal.Hand

end
-- ==== Proof.KRun.lean ====
module

public import proofs.«01_k».proof.Proof.KSums
public import Idealize.ShloMosaic.Lib.Claim

/-! What the kernel's run leaves: the result is the loss. -/

@[expose] public section

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem

section
variable (m : (ℓ : Loc nD τ sig) → Buf (Elt Ideal) ℓ) (c : Dev nD)
variable (u : Fin 8 → Fin 512 → Fin 512 → ℕ → ℝ) (k : Fin 8 → Fin 512 → Fin 512 → ℕ)
variable (hu : ∀ b h w (ch : Fin 19), (show FVec Ideal S8x19x512x512 .f32 from m ((c : Thread nD τ).loc main_arg0)) (ix4 b ch h w) = ((u b h w ch.val : ℝ) : EReal))
  (hk : ∀ b h w, k b h w < 19 ∧ (show IVec S8x512x512 32 from m ((c : Thread nD τ).loc main_arg1)) (ix3 b h w) = BitVec.ofNat 32 (k b h w))

include hu hk in
/-- The output block after the last point holds the loss everywhere. -/
theorem last_loss (t : Fin cfg0.N) (h15 : t.val = 15) (i : Fin 8) (j : Fin 128) : (outsAt0 m c t.val t.isLt).1 (ix2 i j) = ((lossR u k : ℝ) : EReal) := by
  obtain ⟨s, g, q, e, a, b, d⟩ := last m c u k hu hk t h15
  rw [e]
  exact finish_loss u k (fun b h w => (hk b h w).1) s g q a b d i j

include hu hk in
theorem final : (dats m 0 c).arrAt 2 (cfgs 0).N = fun _ => ((lossR u k : ℝ) : EReal) := by
  refine (dats m 0 c).arrAt_eq_of_after_last 2 t0_15 (by decide +kernel) _ fun j => ?_
  blk_simp
  rw [after0_2]
  idx_vars j
  exact last_loss m c u k hu hk t0_15 rfl _ _
end

section
variable (m : (ℓ : Loc nD τ sig) → Buf (Elt Ideal) ℓ) (g : Dev nD → PrngReg) (L : Dev nD → ℝ)

/-- The kernel's run, given what the output array ends at. -/
theorem run (h : ∀ c, (dats m 0 c).arrAt 2 (cfgs 0).N = fun _ => ((L c : ℝ) : EReal)) :
    θ_run (defs (F := Ideal)) (onTc (τ := τ) (main (F := Ideal))) ⟨m, fun _ => 0, g⟩ (fun r => ∀ c : Dev nD,
      r.2.mem ((c.tc : Thread nD τ).loc main_v2) = (fun _ => ((L c : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  have e : Pipeline.withArrays (cfgs (0 : Fin 1)).spec c (V0 m c) (fun w => (dats m 0 c).arrAt w (cfgs 0).N) (Proc.devRef .tc main_v0)
      = fun _ => ((L c : ℝ) : EReal) := (Pipeline.withArrays_arr spec0 (by decide) _ _ _ 2).trans (h c)
  unfold Pipeline.afterTail₀
  simp only [List.flatten_cons, List.flatten_nil, List.append_nil]
  after_results_simp
  rw [e]
  rfl
end

end Cert.KernelIdeal.Hand

end
-- ==== Proof.REnt.lean ====
module

public import proofs.«01_k».proof.Proof.RefRun
public import proofs.«01_k».proof.Proof.Common

/-! The reference's cross entropy at a pixel: the largest logit, taken from all of them, cancels. -/

@[expose] public section

noncomputable section

namespace Cert.ReferenceIdeal.Hand

open Cert.ReferenceIdeal Cert.ReferenceIdeal.Gen Idealize.ShloMosaic
open Cert.KernelIdeal.Hand (ceR coe_sum)

theorem ofBits_bot : Ideal.ofBits .f32 0xFF800000#32 = ⊥ := by simp [Ideal.ofBits, Ideal.ieee]

/-- The largest of finitely many reals, one at least, is a real. -/
theorem fold_max_real {n : ℕ} (f : Fin n → ℝ) (s : Finset (Fin n)) :
    s.fold max (⊥ : EReal) (fun c => ((f c : ℝ) : EReal)) = ⊥ ∧ s = ∅ ∨ ∃ r : ℝ, s.fold max (⊥ : EReal) (fun c => ((f c : ℝ) : EReal)) = (r : EReal) := by
  induction s using Finset.induction_on with
  | empty => exact .inl ⟨rfl, rfl⟩
  | insert a s ha ih =>
    right
    rw [Finset.fold_insert ha]
    rcases ih with ⟨e, -⟩ | ⟨r, e⟩
    · exact ⟨f a, by rw [e]; exact max_bot_right _⟩
    · exact ⟨max (f a) r, by rw [e]; exact (EReal.coe_strictMono.monotone.map_max).symm⟩

theorem reduces_d1 : S8x19x512x512.Reduces [1] S8x512x512 := by decide

theorem lift_at (b : Fin 8) (h w : Fin 512) (c : Fin 19) : reduces_d1.lift (ix3 b h w) c = ix4 b c h w := by
  funext a
  match a with
  | ⟨0, _⟩ => rfl
  | ⟨1, _⟩ => rfl
  | ⟨2, _⟩ => rfl
  | ⟨3, _⟩ => rfl

variable (X : FVec Ideal S8x19x512x512 .f32) (T : IVec S8x512x512 32)
variable (b : Fin 8) (h w : Fin 512) (v : ℕ → ℝ) (hv : ∀ c : Fin 19, X (ix4 b c h w) = ((v c.val : ℝ) : EReal))

include hv in
/-- A pixel's largest logit is a real. -/
theorem top_real : ∃ r : ℝ, Host.reduce FloatOps.maximumf X (constant S_ .f32 0xFF800000#32) reducesTo_S8x19x512x512_S8x512x512_d1 h_S_ (ix3 b h w) = (r : EReal) := by
  have e : Host.reduce FloatOps.maximumf X (constant S_ .f32 0xFF800000#32) reducesTo_S8x19x512x512_S8x512x512_d1 h_S_ (ix3 b h w)
      = (Finset.univ : Finset (Fin 19)).fold max (⊥ : EReal) (fun c => ((v c.val : ℝ) : EReal)) := by
    refine (Host.reduce_eq_fold_single (max : EReal → EReal → EReal) X _ _ reduces_d1 h_S_ (ix3 b h w)).trans ?_
    have e1 : (X ∘ reduces_d1.lift (ix3 b h w)) = fun c : Fin 19 => ((v c.val : ℝ) : EReal) :=
      funext fun c => (congrArg X (lift_at b h w c)).trans (hv c)
    rw [e1]
    exact congrArg (fun z => (Finset.univ : Finset (Fin 19)).fold max z _) ofBits_bot
  rw [e]
  rcases fold_max_real (fun c : Fin 19 => v c.val) Finset.univ with ⟨-, e⟩ | e
  · exact absurd e (Finset.univ_nonempty).ne_empty
  · exact e

omit X T in
/-- Each logit less its pixel's entry of an array, where that is a number at all. -/
theorem less_at (X : FVec Ideal S8x19x512x512 .f32) (M : FVec Ideal S8x512x512 .f32) (b : Fin 8) (h w : Fin 512) (c : Fin 19) :
    subf X (broadcastInDim S8x19x512x512 ![0, 1, 2, 3] bcast_S8x1x512x512_S8x19x512x512_0_1_2_3
      (broadcastInDim S8x1x512x512 ![0, 2, 3] bcast_S8x512x512_S8x1x512x512_0_2_3
        (maximumf (broadcastInDim S8x512x512 ![] bcast_S_S8x512x512 (constant S_ .f32 0xFF800000#32)) M))) (ix4 b c h w)
      = X (ix4 b c h w) - max ⊥ (M (ix3 b h w)) := by
  rw [← ofBits_bot]
  pointwise []

omit X T in
/-- Each entry less the logarithm of its pixel's sum of exponentials. -/
theorem lse_at (Y : FVec Ideal S8x19x512x512 .f32) (b : Fin 8) (h w : Fin 512) (c : Fin 19) :
    subf Y (broadcastInDim S8x19x512x512 ![0, 1, 2, 3] bcast_S8x1x512x512_S8x19x512x512_0_1_2_3
      (Host.log (broadcastInDim S8x1x512x512 ![0, 2, 3] bcast_S8x512x512_S8x1x512x512_0_2_3
        (Host.reduceAdd (Host.exp Y) (constant S_ .f32 0x00000000#32) reducesTo_S8x19x512x512_S8x512x512_d1 h_S_)))) (ix4 b c h w)
      = Y (ix4 b c h w) - Ideal.log (∑ d : Fin 19, Ideal.exp (Y (ix4 b d h w))) := by
  pointwise [Ideal.ofBits_zero_f32]

include hv in
/-- The logits less some real. -/
theorem shifted_at : ∃ r : ℝ, ∀ c : Fin 19, shifted X (ix4 b c h w) = ((v c.val - r : ℝ) : EReal) := by
  obtain ⟨r, hr⟩ := top_real X b h w v hv
  refine ⟨r, fun c => ?_⟩
  unfold shifted
  rw [less_at, hr, hv, max_eq_right bot_le, EReal.coe_sub]

include hv in
/-- The log-probabilities. -/
theorem logp_at (c : Fin 19) : logp X (ix4 b c h w) = ((- ceR v c.val : ℝ) : EReal) := by
  obtain ⟨r, hr⟩ := shifted_at X b h w v hv
  unfold logp
  rw [lse_at, hr]
  simp only [hr, Ideal.exp_coe]
  rw [coe_sum]
  have hs : ∑ d : Fin 19, Real.exp (v d.val - r) = Real.exp (-r) * ∑ d ∈ Finset.range 19, Real.exp (v d) := by
    rw [Finset.sum_range, Finset.mul_sum]
    exact Finset.sum_congr rfl fun d _ => by rw [← Real.exp_add]; congr 1; ring
  have hpos : 0 < ∑ d ∈ Finset.range 19, Real.exp (v d) := Finset.sum_pos (fun d _ => Real.exp_pos _) ⟨0, by simp⟩
  have hprod : 0 < Real.exp (-r) * ∑ d ∈ Finset.range 19, Real.exp (v d) := mul_pos (Real.exp_pos _) hpos
  rw [hs, Ideal.log_coe, if_neg hprod.not_ge, ← EReal.coe_sub, Real.log_mul (Real.exp_pos _).ne' hpos.ne', Real.log_exp, ceR]
  congr 1; ring

end Cert.ReferenceIdeal.Hand
-- ==== Proof.RArg.lean ====
module

public import proofs.«01_k».proof.Proof.RefRun
public import proofs.«01_k».proof.Proof.Common

/-! The reference's prediction: the class of a pixel's one largest logit; and with it which pixels are misclassified. -/

@[expose] public section

noncomputable section

namespace Cert.ReferenceIdeal.Hand

open Cert.ReferenceIdeal Cert.ReferenceIdeal.Gen Idealize.ShloMosaic
open Cert.KernelIdeal.Hand (missR)

/-- A pair of a logit and its class. -/
def pair (v : ℕ → ℝ) (c : ℕ) : Ideal .f32 × BitVec 32 := (((v c : ℝ) : EReal), BitVec.ofNat 32 c)

/-- The greater logit's pair is kept, first or second. -/
theorem keep_left (a b : Ideal .f32 × BitVec 32) (h : @LT.lt EReal _ b.1 a.1) : reducer_argmax_f32_i32 a b = a := by
  have e : ∀ z : BitVec 1, 1#1 ||| z = 1#1 := by decide
  simp [reducer_argmax_f32_i32, Ideal.cmpf_def, Ideal.cmp, Scalar.select, IntOp.ori, IntOp.andi, h, e]

theorem keep_right (a b : Ideal .f32 × BitVec 32) (h : @LT.lt EReal _ a.1 b.1) : reducer_argmax_f32_i32 a b = b := by
  simp [reducer_argmax_f32_i32, Ideal.cmpf_def, Ideal.cmp, Scalar.select, IntOp.ori, IntOp.andi, h, h.not_gt, h.ne]

theorem keep_same (a : Ideal .f32 × BitVec 32) : reducer_argmax_f32_i32 a a = a := by
  simp [reducer_argmax_f32_i32, Ideal.cmpf_def, Ideal.cmp, Scalar.select, IntOp.ori, IntOp.andi, IntOp.cmpi]

/-- Folding over a list of such pairs that holds the largest logit's, one above all others, ends at it. -/
theorem fold_pairs (v : ℕ → ℝ) (p : ℕ) (hmax : ∀ c, c < 19 → c ≠ p → v c < v p) (l : List (Ideal .f32 × BitVec 32))
    (hl : ∀ q ∈ l, ∃ c, c < 19 ∧ q = pair v c) (a : Ideal .f32 × BitVec 32) (ha : a = pair v p ∨ @LT.lt EReal _ a.1 ((v p : ℝ) : EReal))
    (hp : a = pair v p ∨ pair v p ∈ l) : l.foldl reducer_argmax_f32_i32 a = pair v p := by
  induction l generalizing a with
  | nil => simpa using hp
  | cons q l ih =>
    rw [List.foldl_cons]
    have hl' : ∀ r ∈ l, ∃ c, c < 19 ∧ r = pair v c := fun r hr => hl r (List.mem_cons_of_mem _ hr)
    obtain ⟨c, hc, rfl⟩ := hl q List.mem_cons_self
    by_cases hcp : c = p
    · subst hcp
      have e : reducer_argmax_f32_i32 a (pair v c) = pair v c := by
        rcases ha with rfl | h
        · exact keep_same _
        · exact keep_right _ _ h
      rw [e]; exact ih hl' _ (.inl rfl) (.inl rfl)
    · have hlt : ((v c : ℝ) : EReal) < ((v p : ℝ) : EReal) := EReal.coe_lt_coe_iff.2 (hmax c hc hcp)
      rcases ha with rfl | h
      · rw [keep_left _ _ hlt]; exact ih hl' _ (.inl rfl) (.inl rfl)
      · have hne : a ≠ pair v p := fun e => by rw [e] at h; exact lt_irrefl _ h
        have hin : pair v p ∈ l := by
          rcases hp with e | e
          · exact absurd e hne
          · rcases List.mem_cons.1 e with e | e
            · exact absurd (congrArg (fun z => z.1) e) hlt.ne'
            · exact e
        refine ih hl' _ (.inr ?_) (.inr hin)
        have hcases : reducer_argmax_f32_i32 a (pair v c) = a ∨ (reducer_argmax_f32_i32 a (pair v c)).1 = (pair v c).1 := by
          rcases lt_trichotomy (show EReal from a.1) ((v c : ℝ) : EReal) with g | g | g
          · exact .inr (congrArg Prod.fst (keep_right a (pair v c) g))
          · right
            have g' : a.1 = (pair v c).1 := g
            simp [reducer_argmax_f32_i32, Ideal.cmpf_def, Ideal.cmp, Scalar.select, IntOp.ori, IntOp.andi, IntOp.cmpi, g']
          · exact .inl (keep_left a (pair v c) g)
        rcases hcases with e | e
        · rw [e]; exact h
        · rw [e]; exact hlt

theorem drop_at (b : Fin 8) (c : Fin 19) (h w : Fin 512) : reducesTo_S8x19x512x512_S8x512x512_d1.drop (ix4 b c h w) = ix3 b h w := by
  funext a
  match a with
  | ⟨0, _⟩ => rfl
  | ⟨1, _⟩ => rfl
  | ⟨2, _⟩ => rfl

theorem eq_of_drop (i : S8x19x512x512.Idx) (b : Fin 8) (h w : Fin 512)
    (e : reducesTo_S8x19x512x512_S8x512x512_d1.drop i = ix3 b h w) : ∃ c : Fin 19, i = ix4 b c h w := by
  obtain ⟨b', c, h', w', rfl⟩ : ∃ (b' : Fin 8) (c : Fin 19) (h' w' : Fin 512), i = ix4 b' c h' w' := ⟨i 0, i 1, i 2, i 3, eq_ix4 i⟩
  rw [drop_at] at e
  have e0 : b' = b := congrFun e (0 : Fin 3)
  have e1 : h' = h := congrFun e (1 : Fin 3)
  have e2 : w' = w := congrFun e (2 : Fin 3)
  exact ⟨c, by rw [e0, e1, e2]⟩

variable (X : FVec Ideal S8x19x512x512 .f32) (T : IVec S8x512x512 32)

/-- An entry of a pixel's list of pairs is one of its nineteen. -/
theorem mem_fiber (Y : IVec S8x19x512x512 32) (b : Fin 8) (h w : Fin 512) (q : Ideal .f32 × BitVec 32)
    (hq : q ∈ Host.argReduceFiber X Y reducesTo_S8x19x512x512_S8x512x512_d1 (ix3 b h w)) :
    ∃ c : Fin 19, q = (X (ix4 b c h w), Y (ix4 b c h w)) := by
  unfold Host.argReduceFiber at hq
  obtain ⟨n, hn, rfl⟩ := List.mem_map.1 hq
  obtain ⟨c, hc⟩ := eq_of_drop _ b h w (of_decide_eq_true (List.mem_filter.1 hn).2)
  exact ⟨c, by rw [hc]⟩

/-- And each of the nineteen is an entry. -/
theorem fiber_mem (Y : IVec S8x19x512x512 32) (b : Fin 8) (h w : Fin 512) (c : Fin 19) :
    (X (ix4 b c h w), Y (ix4 b c h w)) ∈ Host.argReduceFiber X Y reducesTo_S8x19x512x512_S8x512x512_d1 (ix3 b h w) := by
  unfold Host.argReduceFiber
  refine List.mem_map.2 ⟨S8x19x512x512.rowMajor (ix4 b c h w), List.mem_filter.2 ⟨List.mem_finRange _, ?_⟩, ?_⟩
  · rw [Equiv.symm_apply_apply, drop_at]; exact decide_eq_true rfl
  · rw [Equiv.symm_apply_apply]

/-- The class numbers. -/
theorem iota_at (b : Fin 8) (h w : Fin 512) (c : Fin 19) : iotaInDim S8x19x512x512 32 1 (ix4 b c h w) = BitVec.ofNat 32 c.val := rfl

theorem start_lt (x : ℝ) : @LT.lt EReal _ (constant (F := Ideal) S_ .f32 0xFF800000#32 (Shape.Idx.first h_S_)) ((x : ℝ) : EReal) := by
  have e : constant (F := Ideal) S_ .f32 0xFF800000#32 = fun _ => (⊥ : EReal) := by
    funext i
    pointwise []
    simp [Ideal.ofBits, Ideal.ieee]
  rw [e]
  exact EReal.bot_lt_coe _

/-- The second part of an array of pairs, where the pair is known. -/
theorem snd_of {I A B : Type} {f : I → B} {g : I → A × B} (h : f = fun j => (g j).2) {j : I} {q : A × B} (e : g j = q) : f j = q.2 := by
  subst h
  exact congrArg Prod.snd e

theorem pred_eq : pred X = fun j => (Host.argReduce (F := Ideal) (φ := .f32) reducer_argmax_f32_i32 X (iotaInDim S8x19x512x512 32 1)
    (constant (F := Ideal) S_ .f32 0xFF800000#32) (constantI S_ 32 0#32) reducesTo_S8x19x512x512_S8x512x512_d1 h_S_ j).2 := rfl

/-- The pair at a pixel is the fold over the pixel's list of pairs. -/
theorem pair_fold (j : S8x512x512.Idx) : Host.argReduce (F := Ideal) (φ := .f32) reducer_argmax_f32_i32 X (iotaInDim S8x19x512x512 32 1)
      (constant (F := Ideal) S_ .f32 0xFF800000#32) (constantI S_ 32 0#32) reducesTo_S8x19x512x512_S8x512x512_d1 h_S_ j
    = (Host.argReduceFiber X (iotaInDim S8x19x512x512 32 1) reducesTo_S8x19x512x512_S8x512x512_d1 j).foldl reducer_argmax_f32_i32
        (constant (F := Ideal) S_ .f32 0xFF800000#32 (Shape.Idx.first h_S_), constantI S_ 32 0#32 (Shape.Idx.first h_S_)) :=
  (congrFun (Ideal.argReduce_eq_reduce2 _ _ _ _ _ _ _) j).trans (Host.reduce2_eq_foldl_fiber _ _ _ _ _ _ _ _)

/-- The prediction at a pixel whose logit at `p` is above every other. -/
theorem pred_at (b : Fin 8) (h w : Fin 512) (v : ℕ → ℝ) (hv : ∀ c : Fin 19, X (ix4 b c h w) = ((v c.val : ℝ) : EReal))
    (p : ℕ) (hp : p < 19) (hmax : ∀ c, c < 19 → c ≠ p → v c < v p) : pred X (ix3 b h w) = BitVec.ofNat 32 p := by
  have hel : ∀ c : Fin 19, (X (ix4 b c h w), iotaInDim S8x19x512x512 32 1 (ix4 b c h w)) = pair v c.val := fun c =>
    Prod.ext (hv c) (iota_at b h w c)
  have hall : ∀ q ∈ Host.argReduceFiber X (iotaInDim S8x19x512x512 32 1) reducesTo_S8x19x512x512_S8x512x512_d1 (ix3 b h w), ∃ c, c < 19 ∧ q = pair v c := by
    intro q hq
    obtain ⟨c, hc⟩ := mem_fiber X _ b h w q hq
    exact ⟨c.val, c.isLt, hc.trans (hel c)⟩
  have hin : pair v p ∈ Host.argReduceFiber X (iotaInDim S8x19x512x512 32 1) reducesTo_S8x19x512x512_S8x512x512_d1 (ix3 b h w) := by
    rw [← hel ⟨p, hp⟩]
    exact fiber_mem X _ b h w ⟨p, hp⟩
  have key := fold_pairs v p hmax _ hall
    (constant S_ .f32 0xFF800000#32 (Shape.Idx.first h_S_), constantI S_ 32 0#32 (Shape.Idx.first h_S_)) (.inr (start_lt (v p))) (.inr hin)
  exact snd_of (pred_eq X) ((pair_fold X (ix3 b h w)).trans key)

/-- A pixel is misclassified exactly where some logit exceeds its target's. -/
theorem pred_ne (b : Fin 8) (h w : Fin 512) (v : ℕ → ℝ) (hv : ∀ c : Fin 19, X (ix4 b c h w) = ((v c.val : ℝ) : EReal))
    (hmax : ∃ p, p < 19 ∧ ∀ c, c < 19 → c ≠ p → v c < v p) (k : ℕ) (hk : k < 19) (hT : T (ix3 b h w) = BitVec.ofNat 32 k) :
    cmpi .ne (pred X) T (ix3 b h w) = BitVec.ofNat 1 (missR v k) := by
  obtain ⟨p, hp, hm⟩ := hmax
  show IntOp.cmpi .ne (pred X (ix3 b h w)) (T (ix3 b h w)) = _
  rw [pred_at X b h w v hv p hp hm, hT]
  by_cases e : p = k
  · subst e
    have hn : ¬ ∃ c, c < 19 ∧ v p < v c := by
      rintro ⟨c, hc, hlt⟩
      by_cases e : c = p
      · rw [e] at hlt; exact lt_irrefl _ hlt
      · exact lt_asymm hlt (hm c hc e)
    rw [missR, if_neg hn]; simp [IntOp.cmpi]
  · have hy : ∃ c, c < 19 ∧ v k < v c := ⟨p, hp, hm k hk (fun e' => e e'.symm)⟩
    rw [missR, if_pos hy]
    have hne : BitVec.ofNat 32 p ≠ BitVec.ofNat 32 k := fun q => e (by
      have := congrArg BitVec.toNat q
      simp only [BitVec.toNat_ofNat] at this; omega)
    simp [IntOp.cmpi, bne_iff_ne.2 hne]

end Cert.ReferenceIdeal.Hand
-- ==== Proof.RCount.lean ====
module

public import proofs.«01_k».proof.Proof.RefRun
public import proofs.«01_k».proof.Proof.Common
public import Idealize.ShloMosaic.Lib.Routing.Ops
public import Idealize.ShloMosaic.Lib.Routing.OpsPair

/-! Counting by scatter: a list of numbers, each added at its own place of a short vector. -/

@[expose] public section

noncomputable section

namespace Cert.ReferenceIdeal.Hand

open Idealize.ShloMosaic
open Cert.KernelIdeal.Hand (coe_sum)

section
variable {N M : ℕ} (d : ScatterDims ⟨1, ![N]⟩ ⟨2, ![M, 1]⟩ ⟨1, ![M]⟩) (hiw : d.insertedWindowDims = [0])
  (hsd : d.scatterDimsToOperandDims = [0]) (hivd : d.indexVectorDim = 1) (idx : IVec ⟨2, ![M, 1]⟩ 32)

include hiw hsd hivd in
/-- An entry of the list is added at a place exactly where its index is that place's number. -/
theorem lands (i : Fin M) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun z => (idx z).toInt) (funext fun c => Fin.ext ?_)
    match c with
    | ⟨0, _⟩ =>
      unfold ScatterDims.siIdx
      rw [dif_neg (by rw [hivd]; exact Nat.zero_ne_one)]
      unfold ScatterDims.siCoord
      simp only [Fin.val_cast]
      have e : ∀ z : Fin 1, (ix1 i z).val = i.val := fun z => by
        obtain rfl : z = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  rw [Routing.resultIdx?_eq_some]
  constructor
  · intro h
    have h0 := h (0 : Fin 1)
    rw [hstart, hwin] at h0
    simpa using h0
  · intro h z
    obtain rfl : z = (0 : Fin 1) := Subsingleton.elim (α := Fin 1) _ _
    rw [hstart, hwin]
    simpa using h

variable (g : Fin M → ℕ) (hg : ∀ i, idx (ix2 i (0 : Fin 1)) = BitVec.ofNat 32 (g i)) (hg31 : ∀ i, g i < 2 ^ 31)

include hiw hsd hivd hg hg31 in
theorem lands_nat (i : Fin M) (x : Fin N) : d.resultIdx? (ix1 i) idx = some (ix1 x) ↔ g i = x.val := by
  rw [lands d hiw hsd hivd idx i x, hg, StableHlo.Predicate.toInt_ofNat_small _ (hg31 i)]; omega

/-- A sum over a vector's indices. -/
theorem sum_ix1 {A : Type} [AddCommMonoid A] (f : (⟨1, ![M]⟩ : Shape).Idx → A) : ∑ j, f j = ∑ i : Fin M, f (ix1 i) :=
  (Fintype.sum_equiv ⟨fun i : Fin M => (ix1 i : (⟨1, ![M]⟩ : Shape).Idx), fun j => j 0, fun _ => rfl, fun j => (eq_ix1 j).symm⟩
    (fun i => f (ix1 i)) f fun _ => rfl).symm

include hiw hsd hivd hg hg31 in
/-- Reals added by scatter to zeros. -/
theorem scatter_reals (x : FVec Ideal ⟨1, ![N]⟩ .f32) (hx : ∀ a, x a = (0 : EReal)) (upd : FVec Ideal ⟨1, ![M]⟩ .f32) (f : Fin M → ℝ)
    (hf : ∀ i, upd (ix1 i) = ((f i : ℝ) : EReal)) (a : Fin N) :
    Host.scatterAdd (F := Ideal) d x idx upd (ix1 a) = ((∑ i, if g i = a.val then f i else 0 : ℝ) : EReal) := by
  have e : Host.scatterAdd (F := Ideal) d x idx upd (ix1 a)
      = x (ix1 a) + ∑ j ∈ Finset.univ.filter (fun j => d.resultIdx? j idx = some (ix1 a)), (upd j : EReal) := rfl
  rw [e, hx, zero_add, Finset.sum_filter, sum_ix1, ← coe_sum]
  refine Finset.sum_congr rfl fun i _ => ?_
  by_cases q : g i = a.val
  · rw [if_pos q, if_pos ((lands_nat d hiw hsd hivd idx g hg hg31 i a).2 q), hf]
  · rw [if_neg q, if_neg (fun z => q ((lands_nat d hiw hsd hivd idx g hg hg31 i a).1 z)), EReal.coe_zero]

include hiw hsd hivd hg hg31 in
/-- Ones added by scatter to zeros: how many land at a place. -/
theorem scatter_ones (x : IVec ⟨1, ![N]⟩ 32) (hx : ∀ a, x a = 0#32) (upd : IVec ⟨1, ![M]⟩ 32) (hu : ∀ i, upd i = 1#32) (a : Fin N) :
    Host.scatter d IntOp.addi x idx upd (ix1 a) = BitVec.ofNat 32 (∑ i : Fin M, if g i = a.val then 1 else 0) := by
  rw [Routing.scatter_at]
  have hs : ∀ n : Fin (⟨1, ![M]⟩ : Shape).numel, (⟨1, ![M]⟩ : Shape).rowMajor.symm n = ix1 (n.cast (Routing.numel1 M)) := fun n =>
    (Routing.symm1 n).trans ((eq_ix1 _).trans rfl)
  have hstep : (fun (r : BitVec 32) (n : Fin (⟨1, ![M]⟩ : Shape).numel) => if d.resultIdx? ((⟨1, ![M]⟩ : Shape).rowMajor.symm n) idx = some (ix1 a)
        then IntOp.addi r (upd ((⟨1, ![M]⟩ : Shape).rowMajor.symm n)) else r)
      = fun r n => IntOp.addi r (BitVec.ofNat 32 (if g (n.cast (Routing.numel1 M)) = a.val then 1 else 0)) := by
    funext r n
    rw [hs n]
    by_cases q : g (n.cast (Routing.numel1 M)) = a.val
    · rw [if_pos ((lands_nat d hiw hsd hivd idx g hg hg31 _ a).2 q), if_pos q, hu]
    · rw [if_neg (fun z => q ((lands_nat d hiw hsd hivd idx g hg hg31 _ a).1 z)), if_neg q]
      simp [IntOp.addi]
  rw [hstep]
  refine (Routing.foldl_addi_ofNat (List.finRange _) (fun n => BitVec.ofNat 32 (if g (n.cast (Routing.numel1 M)) = a.val then 1 else 0))
    (fun n => if g (n.cast (Routing.numel1 M)) = a.val then 1 else 0) (fun _ _ => rfl) (x (ix1 a)) 0 (hx _)).trans ?_
  rw [Nat.zero_add, ← Fin.sum_univ_def]
  exact congrArg _ (Fintype.sum_equiv (finCongr (Routing.numel1 M)) _ _ fun _ => rfl)

end

/-! ## The flat list of pixels -/

/-- A flat pixel's image, row and column. -/
def pb (n : Fin 2097152) : Fin 8 := ⟨n.val / 262144, by omega⟩
def ph (n : Fin 2097152) : Fin 512 := ⟨n.val / 512 % 512, by omega⟩
def pw (n : Fin 2097152) : Fin 512 := ⟨n.val % 512, by omega⟩

/-- The flat list runs over every pixel once. -/
def flat : Fin 2097152 ≃ Fin 8 × Fin 512 × Fin 512 where
  toFun n := (pb n, ph n, pw n)
  invFun p := ⟨(p.1.val * 512 + p.2.1.val) * 512 + p.2.2.val, by have := p.1.isLt; have := p.2.1.isLt; have := p.2.2.isLt; omega⟩
  left_inv n := Fin.ext (by simp only [pb, ph, pw]; omega)
  right_inv p := by
    obtain ⟨b, h, w⟩ := p
    have := b.isLt; have := h.isLt; have := w.isLt
    refine Prod.ext (Fin.ext ?_) (Prod.ext (Fin.ext ?_) (Fin.ext ?_)) <;> simp only [pb, ph, pw] <;> omega

theorem flat_sum {A : Type} [AddCommMonoid A] (f : Fin 8 → Fin 512 → Fin 512 → A) : ∑ n : Fin 2097152, f (pb n) (ph n) (pw n) = ∑ b, ∑ h, ∑ w, f b h w := by
  rw [Fintype.sum_equiv flat (fun n => f (pb n) (ph n) (pw n)) (fun p => f p.1 p.2.1 p.2.2) fun _ => rfl]
  simp only [Fintype.sum_prod_type]

end Cert.ReferenceIdeal.Hand
-- ==== Proof.RWeight.lean ====
module

public import proofs.«01_k».proof.Proof.RArg
public import proofs.«01_k».proof.Proof.RCount

/-! The reference's class weights: the misclassified pixels of a class over its pixels. -/

@[expose] public section

noncomputable section

namespace Cert.ReferenceIdeal.Hand

open Cert.ReferenceIdeal Cert.ReferenceIdeal.Gen Idealize.ShloMosaic
open Cert.KernelIdeal.Hand (missR missR_le posOr posOr_pos div_real ofClass pixels misses weightR)

/-- A flat reading of an array of pixels. -/
theorem flat_at {A : Type} (Z : S8x512x512.Idx → A) (n : Fin 2097152) :
    shapeCast S2097152 Z shapeCasts_S8x512x512_S2097152 (ix1 n) = Z (ix3 (pb n) (ph n) (pw n)) := by
  unfold pb ph pw
  pointwise []

theorem class_words (t : BitVec 32) (k : ℕ) (hk : k < 19) (ht : t = BitVec.ofNat 32 k) :
    IntOp.maxsi 0#32 t = t ∧ IntOp.cmpi .slt t 0#32 = 0#1 := by
  subst ht
  interval_cases k <;> decide

/-- The bin of a flat pixel, of any array of targets read there as a class. -/
theorem bin_at (Z : IVec S2097152 32) (n : Fin 2097152) (k : ℕ) (hk : k < 19) (hZ : Z (ix1 n) = BitVec.ofNat 32 k) :
    broadcastInDim S2097152x1 ![0] bcast_S2097152_S2097152x1_0
      (select (cmpi .slt (maxsi (broadcastInDim S2097152 ![] bcast_S_S2097152 (id (constantI S_ 32 0#32))) Z) (broadcastInDim S2097152 ![] bcast_S_S2097152 (constantI S_ 32 0#32)))
        (addi (maxsi (broadcastInDim S2097152 ![] bcast_S_S2097152 (id (constantI S_ 32 0#32))) Z) (broadcastInDim S2097152 ![] bcast_S_S2097152 (constantI S_ 32 19#32)))
        (maxsi (broadcastInDim S2097152 ![] bcast_S_S2097152 (id (constantI S_ 32 0#32))) Z)) (ix2 n (0 : Fin 1)) = BitVec.ofNat 32 k := by
  obtain ⟨h1, h2⟩ := class_words _ k hk hZ
  have e : ∀ a b : BitVec 32, Scalar.select 0#1 a b = b := fun a b => by simp [Scalar.select]
  rw [hZ] at h1 h2
  unfold id
  pointwise []
  simp only [hZ, h1, h2, e]

theorem one_or (m : ℝ) : (if (0 : EReal) < ((m : ℝ) : EReal) then ((m : ℝ) : EReal) else 1) = ((posOr m : ℝ) : EReal) := by
  unfold posOr
  by_cases h : 0 < m
  · rw [if_pos h, if_pos (EReal.coe_pos.2 h)]
  · rw [if_neg h, if_neg (fun z => h (EReal.coe_pos.1 z)), EReal.coe_one]

theorem word_or (g : ℕ) (hg : g < 2 ^ 31) :
    (FloatOps.sitofp (F := Ideal) .f32 (Scalar.select (IntOp.cmpi .sgt (BitVec.ofNat 32 g) 0#32) (BitVec.ofNat 32 g) 1#32) : EReal)
      = ((posOr g : ℝ) : EReal) := by
  have hs : ∀ z : BitVec 32, (FloatOps.sitofp (F := Ideal) .f32 z : EReal) = ((z.toInt : ℝ) : EReal) := fun _ => rfl
  rw [hs]
  unfold posOr
  by_cases h : g = 0
  · subst h
    rw [if_neg (by simp)]
    have e : Scalar.select (IntOp.cmpi .sgt (BitVec.ofNat 32 0) 0#32) (BitVec.ofNat 32 0) 1#32 = 1#32 := by decide
    rw [e]; simp
  · have ht := StableHlo.Predicate.toInt_ofNat_small g hg
    have e : IntOp.cmpi .sgt (BitVec.ofNat 32 g) 0#32 = 1#1 := by
      simp only [IntOp.cmpi, BitVec.slt_eq_decide, ht, BitVec.toInt_zero]
      rw [decide_eq_true (by omega)]; rfl
    rw [if_pos (by exact_mod_cast Nat.pos_of_ne_zero h), e]
    have e1 : Scalar.select 1#1 (BitVec.ofNat 32 g) 1#32 = BitVec.ofNat 32 g := rfl
    rw [e1, ht]; simp

/-- A weight, of the two counts. -/
theorem ratio_at (Fn : FVec Ideal S19 .f32) (Gt : IVec S19 32) (a : Fin 19) (m : ℝ) (g : ℕ) (hg : g < 2 ^ 31)
    (hF : Fn (ix1 a) = ((m : ℝ) : EReal)) (hG : Gt (ix1 a) = BitVec.ofNat 32 g) :
    Host.divf
      (select (cmpf .ogt Fn (broadcastInDim S19 ![] bcast_S_S19 (constant S_ .f32 0x00000000#32))) Fn
        (broadcastInDim S19 ![] bcast_S_S19 (id (constant S_ .f32 0x3F800000#32))))
      (sitofp .f32 (select (cmpi .sgt Gt (broadcastInDim S19 ![] bcast_S_S19 (constantI S_ 32 0#32))) Gt
        (broadcastInDim S19 ![] bcast_S_S19 (id (constantI S_ 32 1#32))))) (ix1 a) = ((posOr m / posOr g : ℝ) : EReal) := by
  unfold id
  pointwise [Ideal.ofBits_zero_f32, Ideal.ofBits_one_f32, hF, hG]
  rw [← div_real _ _ (posOr_pos _), one_or, word_or g hg]

variable (X : FVec Ideal S8x19x512x512 .f32) (T : IVec S8x512x512 32)
variable (u : Fin 8 → Fin 512 → Fin 512 → ℕ → ℝ) (k : Fin 8 → Fin 512 → Fin 512 → ℕ)

/-- The bin a flat pixel is counted in is its class. -/
theorem bins_at (hk : ∀ b h w, k b h w < 19 ∧ T (ix3 b h w) = BitVec.ofNat 32 (k b h w)) (n : Fin 2097152) :
    bins T (ix2 n (0 : Fin 1)) = BitVec.ofNat 32 (k (pb n) (ph n) (pw n)) := by
  unfold bins clipped
  exact bin_at _ n _ (hk _ _ _).1 ((flat_at T n).trans (hk _ _ _).2)

/-- The pixels of a class, counted. -/
def count (a : ℕ) : ℕ := ∑ n : Fin 2097152, if k (pb n) (ph n) (pw n) = a then 1 else 0

theorem count_lt (a : ℕ) : count k a < 2 ^ 31 := by
  unfold count
  calc _ ≤ ∑ n : Fin 2097152, 1 := Finset.sum_le_sum fun n _ => by split <;> omega
    _ = 2097152 := by rw [Finset.sum_const, Finset.card_univ, Fintype.card_fin]; rfl
    _ < 2 ^ 31 := by norm_num

theorem count_eq (a : ℕ) : (count k a : ℝ) = pixels k a := by
  unfold count pixels ofClass
  rw [← flat_sum (fun b h w => if k b h w = a then (1 : ℝ) else 0), Nat.cast_sum]
  exact Finset.sum_congr rfl fun n _ => by split <;> simp

theorem gtCount_at (hk : ∀ b h w, k b h w < 19 ∧ T (ix3 b h w) = BitVec.ofNat 32 (k b h w)) (a : Fin 19) :
    gtCount T (ix1 a) = BitVec.ofNat 32 (count k a.val) := by
  unfold gtCount count
  exact scatter_ones _ rfl rfl rfl _ (fun n => k (pb n) (ph n) (pw n)) (bins_at T k hk) (fun n => by have := (hk (pb n) (ph n) (pw n)).1; omega)
    _ (fun _ => rfl) _ (fun _ => rfl) a

/-- The misclassified pixels of a class, counted. -/
theorem fnCount_at (hu : ∀ b h w (ch : Fin 19), X (ix4 b ch h w) = ((u b h w ch.val : ℝ) : EReal))
    (hmax : ∀ b h w, ∃ p, p < 19 ∧ ∀ c, c < 19 → c ≠ p → u b h w c < u b h w p)
    (hk : ∀ b h w, k b h w < 19 ∧ T (ix3 b h w) = BitVec.ofNat 32 (k b h w)) (a : Fin 19) :
    fnCount X T (ix1 a) = ((misses u k a.val : ℝ) : EReal) := by
  have hm : ∀ n : Fin 2097152, uitofp (F := Ideal) .f32 (missed X T) (ix1 n) = (((missR (u (pb n) (ph n) (pw n)) (k (pb n) (ph n) (pw n)) : ℕ) : ℝ) : EReal) := by
    intro n
    have e : missed X T (ix1 n) = BitVec.ofNat 1 (missR (u (pb n) (ph n) (pw n)) (k (pb n) (ph n) (pw n))) := by
      unfold missed
      exact (flat_at _ n).trans (pred_ne X T _ _ _ _ (hu _ _ _) (hmax _ _ _) _ (hk _ _ _).1 (hk _ _ _).2)
    have e2 : uitofp (F := Ideal) .f32 (missed X T) (ix1 n) = (((missed X T (ix1 n)).toNat : ℝ) : EReal) := rfl
    rw [e2, e, BitVec.toNat_ofNat, Nat.mod_eq_of_lt (by have := missR_le (u (pb n) (ph n) (pw n)) (k (pb n) (ph n) (pw n)); omega)]
  have hz : ∀ i, broadcastInDim S19 ![] bcast_S_S19 (constant (F := Ideal) S_ .f32 0x00000000#32) i = (0 : EReal) := fun i => Ideal.ofBits_zero_f32
  unfold fnCount
  refine (scatter_reals _ rfl rfl rfl _ (fun n => k (pb n) (ph n) (pw n)) (bins_at T k hk) (fun n => by have := (hk (pb n) (ph n) (pw n)).1; omega)
    _ hz _ _ hm a).trans ?_
  unfold misses ofClass
  rw [← flat_sum (fun b h w => if k b h w = a.val then (missR (u b h w) (k b h w) : ℝ) else 0)]

/-- A class's weight. -/
theorem weight_at (hu : ∀ b h w (ch : Fin 19), X (ix4 b ch h w) = ((u b h w ch.val : ℝ) : EReal))
    (hmax : ∀ b h w, ∃ p, p < 19 ∧ ∀ c, c < 19 → c ≠ p → u b h w c < u b h w p)
    (hk : ∀ b h w, k b h w < 19 ∧ T (ix3 b h w) = BitVec.ofNat 32 (k b h w)) (a : Fin 19) :
    weight X T (ix1 a) = ((weightR u k a.val : ℝ) : EReal) := by
  unfold weight
  refine (ratio_at _ _ a _ _ (count_lt k a.val) (fnCount_at X T u k hu hmax hk a) (gtCount_at T k hk a)).trans ?_
  rw [count_eq, weightR]

end Cert.ReferenceIdeal.Hand
-- ==== Proof.RTake.lean ====
module

public import proofs.«01_k».proof.Proof.RefRun
public import proofs.«01_k».proof.Proof.Common
public import Idealize.ShloMosaic.Lib.Routing.OpsPair

/-! The reference's two reads at a pixel's class: of a pixel's own nineteen entries, and of a vector of nineteen. -/

@[expose] public section

noncomputable section

namespace Cert.ReferenceIdeal.Hand

open Cert.ReferenceIdeal Cert.ReferenceIdeal.Gen Idealize.ShloMosaic

theorem start_class (k : ℕ) (hk : k < 19) : min (BitVec.ofNat 32 k).toInt.toNat 18 = k := by
  interval_cases k <;> decide

/-- The read of a pixel's own entries. -/
theorem own_at {A : Type} (Y : S8x19x512x512.Idx → A) (P : IVec S8x1x512x512x1 32) (b : Fin 8) (h w : Fin 512) (k : ℕ) (hk : k < 19)
    (hP : P (ix5 b (0 : Fin 1) h w (0 : Fin 1)) = BitVec.ofNat 32 k) :
    Host.gather gather_S8x19x512x512_S8x1x512x512x1_S8x1x512x512_n_1_023_023_1_4_1111 Y P (ix4 b (0 : Fin 1) h w) = Y (ix4 b ⟨k, hk⟩ h w) := by
  unfold Host.gather
  refine congrArg Y (funext fun a => Fin.ext ?_)
  have hsi : ∀ q, GatherDims.siIdx gather_S8x19x512x512_S8x1x512x512x1_S8x1x512x512_n_1_023_023_1_4_1111 (ix4 b (0 : Fin 1) h w) q = ix5 b (0 : Fin 1) h w (0 : Fin 1) := by
    intro q
    obtain ⟨q, hq⟩ := q
    have hq0 : q = 0 := by
      have : q < 1 := hq
      omega
    subst hq0
    funext c
    refine Fin.ext ?_
    match c with
    | ⟨0, _⟩ => rfl
    | ⟨1, _⟩ => rfl
    | ⟨2, _⟩ => rfl
    | ⟨3, _⟩ => rfl
    | ⟨4, _⟩ => rfl
  let d := gather_S8x19x512x512_S8x1x512x512x1_S8x1x512x512_n_1_023_023_1_4_1111
  have batch : ∀ z : Fin 4, z ∈ d.operandBatchingDims → z ∉ d.sKept →
      d.start (ix4 b (0 : Fin 1) h w) P z + d.batchCoord (ix4 b (0 : Fin 1) h w) z + d.offCoord (ix4 b (0 : Fin 1) h w) z = d.batchCoord (ix4 b (0 : Fin 1) h w) z := by
    intro z h1 h2
    rw [d.start_batching _ _ _ h1, d.offCoord_eq_zero _ _ h2, Nat.zero_add, Nat.add_zero]
  have n0 : d.batchCoord (ix4 b (0 : Fin 1) h w) (0 : Fin 4) = b.val := by
    unfold GatherDims.batchCoord
    rw [dif_pos (by decide)]
    rfl
  have n2 : d.batchCoord (ix4 b (0 : Fin 1) h w) (2 : Fin 4) = h.val := by
    unfold GatherDims.batchCoord
    rw [dif_pos (by decide)]
    rfl
  have n3 : d.batchCoord (ix4 b (0 : Fin 1) h w) (3 : Fin 4) = w.val := by
    unfold GatherDims.batchCoord
    rw [dif_pos (by decide)]
    rfl
  have n1 : d.start (ix4 b (0 : Fin 1) h w) P (1 : Fin 4) + d.batchCoord (ix4 b (0 : Fin 1) h w) (1 : Fin 4) + d.offCoord (ix4 b (0 : Fin 1) h w) (1 : Fin 4) = k := by
    rw [d.batchCoord_eq_zero _ (1 : Fin 4) (by decide), d.offCoord_eq_zero _ (1 : Fin 4) (by decide)]
    unfold GatherDims.start
    rw [dif_pos (by decide), hsi, hP]
    exact start_class k hk
  match a with
  | ⟨0, _⟩ => exact (batch (0 : Fin 4) (by decide) (by decide)).trans n0
  | ⟨1, _⟩ => exact n1
  | ⟨2, _⟩ => exact (batch (2 : Fin 4) (by decide) (by decide)).trans n2
  | ⟨3, _⟩ => exact (batch (3 : Fin 4) (by decide) (by decide)).trans n3

/-- The read of a vector of nineteen. -/
theorem table_at {A : Type} (Y : S19.Idx → A) (P : IVec S8x512x512x1 32) (b : Fin 8) (h w : Fin 512) (k : ℕ) (hk : k < 19)
    (hP : P (ix4 b h w (0 : Fin 1)) = BitVec.ofNat 32 k) :
    Host.gather gather_S19_S8x512x512x1_S8x512x512_n_0_n_n_0_3_1 Y P (ix3 b h w) = Y (ix1 ⟨k, hk⟩) := by
  unfold Host.gather
  refine congrArg Y (funext fun a => Fin.ext ?_)
  have hsi : ∀ q, GatherDims.siIdx gather_S19_S8x512x512x1_S8x512x512_n_0_n_n_0_3_1 (ix3 b h w) q = ix4 b h w (0 : Fin 1) := by
    intro q
    obtain ⟨q, hq⟩ := q
    have hq0 : q = 0 := by
      have : q < 1 := hq
      omega
    subst hq0
    funext c
    refine Fin.ext ?_
    match c with
    | ⟨0, _⟩ => rfl
    | ⟨1, _⟩ => rfl
    | ⟨2, _⟩ => rfl
    | ⟨3, _⟩ => rfl
  let d := gather_S19_S8x512x512x1_S8x512x512_n_0_n_n_0_3_1
  have n0 : d.start (ix3 b h w) P (0 : Fin 1) + d.batchCoord (ix3 b h w) (0 : Fin 1) + d.offCoord (ix3 b h w) (0 : Fin 1) = k := by
    rw [d.batchCoord_eq_zero _ (0 : Fin 1) (by decide), d.offCoord_eq_zero _ (0 : Fin 1) (by decide)]
    unfold GatherDims.start
    rw [dif_pos (by decide), hsi, hP]
    exact start_class k hk
  match a with
  | ⟨0, _⟩ => exact n0

theorem keep_class (t : BitVec 32) (k : ℕ) (hk : k < 19) (ht : t = BitVec.ofNat 32 k) : IntOp.cmpi .slt t 0#32 = 0#1 ∧
    IntOp.cmpi .sge t 0#32 = 1#1 ∧ IntOp.cmpi .sle t 18#32 = 1#1 := by
  subst ht
  interval_cases k <;> decide

theorem select_zero {A : Type} (a b : A) : Scalar.select 0#1 a b = b := rfl
theorem select_one {A : Type} (a b : A) : Scalar.select 1#1 a b = a := rfl

variable (T : IVec S8x512x512 32) (b : Fin 8) (h w : Fin 512) (k : ℕ) (hk : k < 19) (hT : T (ix3 b h w) = BitVec.ofNat 32 k)

include hk hT in
/-- The place read at is the pixel's class. -/
theorem place_at : place T (ix5 b (0 : Fin 1) h w (0 : Fin 1)) = BitVec.ofNat 32 k := by
  obtain ⟨h1, -, -⟩ := keep_class _ k hk hT
  rw [hT] at h1
  unfold place
  pointwise []
  simp only [hT, h1, select_zero]

theorem reduces_d4 : S8x1x512x512x1.Reduces [4] S8x1x512x512 := by decide

/-- A conjunction over an axis of one. -/
theorem and_at (Z : IVec S8x1x512x512x1 1) : Host.reduce IntOp.andi Z (constantI S_ 1 1#1) reducesTo_S8x1x512x512x1_S8x1x512x512_d4 h_S_ (ix4 b (0 : Fin 1) h w)
    = IntOp.andi (Z (ix5 b (0 : Fin 1) h w (0 : Fin 1))) 1#1 := by
  haveI : Std.Commutative (IntOp.andi : BitVec 1 → BitVec 1 → BitVec 1) := ⟨by decide⟩
  haveI : Std.Associative (IntOp.andi : BitVec 1 → BitVec 1 → BitVec 1) := ⟨by decide⟩
  refine (Host.reduce_eq_fold_single IntOp.andi Z _ _ reduces_d4 h_S_ (ix4 b (0 : Fin 1) h w)).trans ?_
  have e : reduces_d4.lift (ix4 b (0 : Fin 1) h w) (0 : Fin 1) = ix5 b (0 : Fin 1) h w (0 : Fin 1) := by
    funext a
    match a with
    | ⟨0, _⟩ => rfl
    | ⟨1, _⟩ => rfl
    | ⟨2, _⟩ => rfl
    | ⟨3, _⟩ => rfl
    | ⟨4, _⟩ => rfl
  have e1 : (Finset.univ : Finset (Fin 1)) = {0} := rfl
  refine (congrArg (fun s : Finset (Fin 1) => s.fold IntOp.andi (1#1) (Z ∘ reduces_d4.lift (ix4 b (0 : Fin 1) h w))) e1).trans ?_
  refine (Finset.fold_singleton (op := IntOp.andi) (b := 1#1) (f := fun q : Fin 1 => Z (reduces_d4.lift (ix4 b (0 : Fin 1) h w) q)) (a := 0)).trans ?_
  exact congrArg (fun z => IntOp.andi (Z z) 1#1) e

include hk hT in
theorem inRange_at : inRange T (ix4 b (0 : Fin 1) h w) = 1#1 := by
  have hp := place_at T b h w k hk hT
  obtain ⟨-, h2, h3⟩ := keep_class _ k hk hp
  unfold inRange
  rw [and_at]
  have e : ∀ P : IVec S8x1x512x512x1 32, andi (cmpi .sge P (broadcastInDim S8x1x512x512x1 ![] bcast_S_S8x1x512x512x1 (constantI S_ 32 0#32)))
      (cmpi .sle P (broadcastInDim S8x1x512x512x1 ![0, 1, 2, 3, 4] bcast_S1x1x1x1x1_S8x1x512x512x1_0_1_2_3_4 (broadcastInDim S1x1x1x1x1 ![4] bcast_S1_S1x1x1x1x1_4 (constantI S1 32 18#32))))
      (ix5 b (0 : Fin 1) h w (0 : Fin 1)) = IntOp.andi (IntOp.cmpi .sge (P (ix5 b (0 : Fin 1) h w (0 : Fin 1))) 0#32) (IntOp.cmpi .sle (P (ix5 b (0 : Fin 1) h w (0 : Fin 1))) 18#32) := by
    intro P
    pointwise []
  rw [e, h2, h3]
  rfl

include hk hT in
/-- The index the weight is read at is the pixel's class. -/
theorem index_at : broadcastInDim S8x512x512x1 ![0, 1, 2] bcast_S8x512x512_S8x512x512x1_0_1_2
      (select (cmpi .slt T (broadcastInDim S8x512x512 ![] bcast_S_S8x512x512 (constantI S_ 32 0#32)))
        (addi T (broadcastInDim S8x512x512 ![] bcast_S_S8x512x512 (constantI S_ 32 19#32))) T) (ix4 b h w (0 : Fin 1)) = BitVec.ofNat 32 k := by
  obtain ⟨h1, -, -⟩ := keep_class _ k hk hT
  rw [hT] at h1
  pointwise []
  simp only [hT, h1, select_zero]

/-- The negative of an entry kept. -/
theorem neg_at (B : IVec S8x1x512x512 1) (G N : FVec Ideal S8x1x512x512 .f32) (hB : B (ix4 b (0 : Fin 1) h w) = 1#1) :
    Host.negf (shapeCast S8x512x512 (select B G N) shapeCasts_S8x1x512x512_S8x512x512) (ix3 b h w) = -(show EReal from G (ix4 b (0 : Fin 1) h w)) := by
  pointwise []
  simp only [hB, select_one]
  try rfl

end Cert.ReferenceIdeal.Hand
-- ==== Proof.RLoss.lean ====
module

public import proofs.«01_k».proof.Proof.REnt
public import proofs.«01_k».proof.Proof.RWeight
public import proofs.«01_k».proof.Proof.RTake

/-! The reference's result: the weighted mean of the pixels' cross entropies. -/

@[expose] public section

noncomputable section

namespace Cert.ReferenceIdeal.Hand

open Cert.ReferenceIdeal Cert.ReferenceIdeal.Gen Idealize.ShloMosaic
open Cert.KernelIdeal.Hand (ceR coe_sum div_real ofBits_pixels weightR lossR weighted entropy)

/-- The mean of an array of products of reals. -/
theorem mean_at (P C : FVec Ideal S8x512x512 .f32) (p c : Fin 8 → Fin 512 → Fin 512 → ℝ)
    (hP : ∀ b h w, P (ix3 b h w) = ((p b h w : ℝ) : EReal)) (hC : ∀ b h w, C (ix3 b h w) = ((c b h w : ℝ) : EReal)) :
    Host.divf (Host.reduceAdd (mulf P C) (constant S_ .f32 0x00000000#32) reducesTo_S8x512x512_S_d0_1_2 h_S_) (constant S_ .f32 0x4A000000#32)
      = fun _ => (((∑ b, ∑ h, ∑ w, p b h w * c b h w) / 2097152 : ℝ) : EReal) := by
  funext i
  have e : Host.divf (Host.reduceAdd (mulf P C) (constant S_ .f32 0x00000000#32) reducesTo_S8x512x512_S_d0_1_2 h_S_) (constant S_ .f32 0x4A000000#32) i
      = Ideal.div (∑ b : Fin 8, ∑ h : Fin 512, ∑ w : Fin 512, (show EReal from P (ix3 b h w)) * (show EReal from C (ix3 b h w))) (Ideal.ofBits .f32 0x4A000000#32) := by
    pointwise [Ideal.ofBits_zero_f32]
  rw [e, ofBits_pixels]
  simp only [hP, hC, ← EReal.coe_mul, coe_sum]
  exact div_real _ _ (by norm_num)

variable (X : FVec Ideal S8x19x512x512 .f32) (T : IVec S8x512x512 32)
variable (u : Fin 8 → Fin 512 → Fin 512 → ℕ → ℝ) (k : Fin 8 → Fin 512 → Fin 512 → ℕ)
  (hu : ∀ b h w (ch : Fin 19), X (ix4 b ch h w) = ((u b h w ch.val : ℝ) : EReal))
  (hmax : ∀ b h w, ∃ p, p < 19 ∧ ∀ c, c < 19 → c ≠ p → u b h w c < u b h w p)
  (hk : ∀ b h w, k b h w < 19 ∧ T (ix3 b h w) = BitVec.ofNat 32 (k b h w))

include hu hk in
theorem crossEntropy_at (b : Fin 8) (h w : Fin 512) : crossEntropy X T (ix3 b h w) = ((ceR (u b h w) (k b h w) : ℝ) : EReal) := by
  unfold crossEntropy
  rw [neg_at b h w _ _ _ (inRange_at T b h w _ (hk b h w).1 (hk b h w).2),
    own_at _ _ b h w _ (hk b h w).1 (place_at T b h w _ (hk b h w).1 (hk b h w).2), logp_at X b h w (u b h w) (hu b h w)]
  show -((-ceR (u b h w) (k b h w) : ℝ) : EReal) = _
  rw [← EReal.coe_neg, neg_neg]

include hu hmax hk in
theorem pixelWeight_at (b : Fin 8) (h w : Fin 512) : pixelWeight X T (ix3 b h w) = ((weightR u k (k b h w) : ℝ) : EReal) := by
  unfold pixelWeight
  rw [table_at _ _ b h w _ (hk b h w).1 (index_at T b h w _ (hk b h w).1 (hk b h w).2)]
  exact weight_at X T u k hu hmax hk ⟨k b h w, (hk b h w).1⟩

include hu hmax hk in
/-- The reference's result. -/
theorem loss_eq : loss X T = fun _ => ((lossR u k : ℝ) : EReal) := by
  unfold loss
  rw [mean_at _ _ (fun b h w => weightR u k (k b h w)) (fun b h w => ceR (u b h w) (k b h w)) (pixelWeight_at X T u k hu hmax hk)
    (crossEntropy_at X T u k hu hk)]
  unfold lossR entropy
  rw [weighted k (fun b h w => (hk b h w).1)]

end Cert.ReferenceIdeal.Hand
-- ==== Proof.RPre.lean ====
module

public import proofs.«01_k».proof.Proof.Gen.Pre_usual
public import Idealize.ShloMosaic.Lib.IdealHost
public import Idealize.ShloMosaic.Lib.Pointwise
public import Idealize.ShloMosaic.Lib.StableHlo.Predicate

/-! What the precondition says of a pixel: its logits are real, one of them is above all the others, its target is a class. -/

@[expose] public section

noncomputable section

namespace Cert.Pre_usual.Hand

open Cert.Pre_usual Cert.Pre_usual.Gen Idealize.ShloMosaic

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

theorem reduces_d1 : S8x19x512x512.Reduces [1] S8x512x512 := by decide

theorem lift_at (b : Fin 8) (h w : Fin 512) (c : Fin 19) : reduces_d1.lift (ix3 b h w) c = ix4 b c h w := by
  funext a
  match a with
  | ⟨0, _⟩ => rfl
  | ⟨1, _⟩ => rfl
  | ⟨2, _⟩ => rfl
  | ⟨3, _⟩ => rfl

/-- A maximum over the classes. -/
theorem top_at (X : FVec Ideal S8x19x512x512 .f32) (b : Fin 8) (h w : Fin 512) :
    Host.reduce FloatOps.maximumf X (constant S_ .f32 0xFF800000#32) reducesTo_S8x19x512x512_S8x512x512_d1 h_S_ (ix3 b h w)
      = (Finset.univ : Finset (Fin 19)).fold max (⊥ : EReal) (fun c => X (ix4 b c h w)) := by
  refine (Host.reduce_eq_fold_single (max : EReal → EReal → EReal) X _ _ reduces_d1 h_S_ (ix3 b h w)).trans ?_
  have e1 : (X ∘ reduces_d1.lift (ix3 b h w)) = fun c : Fin 19 => X (ix4 b c h w) := funext fun c => congrArg X (lift_at b h w c)
  rw [e1]
  exact congrArg (fun z => (Finset.univ : Finset (Fin 19)).fold max z _) ofBits_bot

theorem fold_words {n : ℕ} (f : Fin n → BitVec 32) (g : Fin n → ℕ) (hf : ∀ c, f c = BitVec.ofNat 32 (g c)) (s : Finset (Fin n))
    [Std.Commutative (IntOp.addi : BitVec 32 → BitVec 32 → BitVec 32)] [Std.Associative (IntOp.addi : BitVec 32 → BitVec 32 → BitVec 32)] :
    s.fold IntOp.addi 0#32 f = BitVec.ofNat 32 (∑ c ∈ s, g c) := by
  induction s using Finset.induction_on with
  | empty => rfl
  | insert a s ha ih =>
    rw [Finset.fold_insert ha, Finset.sum_insert ha, ih, hf]
    exact (BitVec.ofNat_add _ _).symm

/-- How many classes an array of flags marks. -/
theorem count_at (E : IVec S8x19x512x512 1) (b : Fin 8) (h w : Fin 512) :
    Host.reduce IntOp.addi (extui 32 E natLt_1_32) (constantI S_ 32 0#32) reducesTo_S8x19x512x512_S8x512x512_d1 h_S_ (ix3 b h w)
      = BitVec.ofNat 32 (∑ c : Fin 19, (E (ix4 b c h w)).toNat) := by
  haveI : Std.Commutative (IntOp.addi : BitVec 32 → BitVec 32 → BitVec 32) := ⟨BitVec.add_comm⟩
  haveI : Std.Associative (IntOp.addi : BitVec 32 → BitVec 32 → BitVec 32) := ⟨BitVec.add_assoc⟩
  refine (Host.reduce_eq_fold_single IntOp.addi _ _ _ reduces_d1 h_S_ (ix3 b h w)).trans ?_
  refine fold_words (n := 19) _ (fun c => (E (ix4 b c h w)).toNat) (fun c => ?_) Finset.univ
  refine (congrArg (extui 32 E natLt_1_32) (lift_at b h w c)).trans ?_
  exact BitVec.eq_of_toNat_eq (by
    have e : extui 32 E natLt_1_32 (ix4 b c h w) = (E (ix4 b c h w)).setWidth 32 := rfl
    rw [e, BitVec.toNat_setWidth, BitVec.toNat_ofNat])

theorem both (a b : BitVec 1) : IntOp.andi a b = 1#1 → a = 1#1 ∧ b = 1#1 := by
  revert a b; decide

/-- The four conditions, of arrays of any kind. -/
theorem split (A : FVec Ideal S8x512x512 .f32) (C T : IVec S8x512x512 32)
    (e : andi (andi (andi (cmpf .olt A (broadcastInDim S8x512x512 ![] bcast_S_S8x512x512 (constant S_ .f32 0x7F800000#32)))
      (cmpi .eq C (broadcastInDim S8x512x512 ![] bcast_S_S8x512x512 (constantI S_ 32 1#32))))
      (cmpi .sge T (broadcastInDim S8x512x512 ![] bcast_S_S8x512x512 (constantI S_ 32 0#32))))
      (cmpi .slt T (broadcastInDim S8x512x512 ![] bcast_S_S8x512x512 (constantI S_ 32 19#32))) = fun _ => 1#1) (j : S8x512x512.Idx) :
    @LT.lt EReal _ (A j) ⊤ ∧ C j = 1#32 ∧ IntOp.cmpi .sge (T j) 0#32 = 1#1 ∧ IntOp.cmpi .slt (T j) 19#32 = 1#1 := by
  obtain ⟨h1, h4⟩ := both _ _ (congrFun e j)
  obtain ⟨h2, h3⟩ := both _ _ h1
  obtain ⟨h5, h6⟩ := both _ _ h2
  refine ⟨?_, ?_, h3, h4⟩
  · have e1 : Ideal.cmp .olt (A j) (Ideal.ofBits .f32 0x7F800000#32) = 1#1 := h5
    rw [ofBits_top] at e1
    by_contra hn
    simp [Ideal.cmp, hn] at e1
  · have e1 : BitVec.ofBool (C j == 1#32) = 1#1 := h6
    by_contra hn
    rw [beq_false_of_ne hn] at e1
    exact absurd e1 (by decide)

/-- A word between zero and nineteen, both read signed, is a class. -/
theorem class_of (t : BitVec 32) (h0 : IntOp.cmpi .sge t 0#32 = 1#1) (h1 : IntOp.cmpi .slt t 19#32 = 1#1) :
    t.toNat < 19 ∧ t = BitVec.ofNat 32 t.toNat := by
  refine ⟨?_, by simp⟩
  have e0 : 0 ≤ t.toInt := by
    by_contra hn
    simp [IntOp.cmpi, BitVec.sle_eq_decide, hn] at h0
  have e1 : t.toInt < 19 := by
    by_contra hn
    simp [IntOp.cmpi, BitVec.slt_eq_decide, hn] at h1
  rw [BitVec.toInt_eq_toNat_cond] at e0 e1
  split at e0 <;> omega

/-- Nineteen extended reals, all finite in size, whose maximum is met once. -/
theorem one_top (x : Fin 19 → EReal) (hfin : (Finset.univ : Finset (Fin 19)).fold max (⊥ : EReal) (fun c => max (x c) (-(x c))) < ⊤)
    (hone : ∑ c : Fin 19, (if x c = (Finset.univ : Finset (Fin 19)).fold max (⊥ : EReal) x then 1 else 0) = 1) :
    (∀ c, x c = (((x c).toReal : ℝ) : EReal)) ∧ ∃ p : Fin 19, ∀ c, c ≠ p → (x c).toReal < (x p).toReal := by
  rw [Finset.fold_max_lt] at hfin
  have hreal : ∀ c, x c = (((x c).toReal : ℝ) : EReal) := by
    intro c
    have h := hfin.2 c (Finset.mem_univ c)
    rw [max_lt_iff] at h
    refine (EReal.coe_toReal h.1.ne fun e => ?_).symm
    rw [e] at h
    simp at h
  refine ⟨hreal, ?_⟩
  set t := (Finset.univ : Finset (Fin 19)).fold max (⊥ : EReal) x with ht
  rw [Finset.sum_boole, Nat.cast_id, Finset.card_eq_one] at hone
  obtain ⟨p, hp⟩ := hone
  have hpt : x p = t := (Finset.mem_filter.1 (hp ▸ Finset.mem_singleton_self p : p ∈ Finset.univ.filter fun c => x c = t)).2
  refine ⟨p, fun c hc => ?_⟩
  have hne : x c ≠ t := fun e => hc (Finset.mem_singleton.1 (hp ▸ Finset.mem_filter.2 ⟨Finset.mem_univ c, e⟩))
  have hle : x c ≤ t := (Finset.le_fold_max (x c)).2 (.inr ⟨c, Finset.mem_univ c, le_rfl⟩)
  have hlt : x c < x p := hpt ▸ lt_of_le_of_ne hle hne
  rw [hreal c, hreal p] at hlt
  exact EReal.coe_lt_coe_iff.1 hlt

variable (X : FVec Ideal S8x19x512x512 .f32) (T : IVec S8x512x512 32)

/-- The flags of the logits that meet their pixel's maximum. -/
theorem flag_at (M : FVec Ideal S8x512x512 .f32) (b : Fin 8) (h w : Fin 512) (c : Fin 19) :
    cmpf .oeq X (broadcastInDim S8x19x512x512 ![0, 1, 2, 3] bcast_S8x1x512x512_S8x19x512x512_0_1_2_3
      (broadcastInDim S8x1x512x512 ![0, 2, 3] bcast_S8x512x512_S8x1x512x512_0_2_3 M)) (ix4 b c h w)
      = Ideal.cmp .oeq (X (ix4 b c h w)) (M (ix3 b h w)) := by
  have e : broadcastInDim S8x19x512x512 ![0, 1, 2, 3] bcast_S8x1x512x512_S8x19x512x512_0_1_2_3
      (broadcastInDim S8x1x512x512 ![0, 2, 3] bcast_S8x512x512_S8x1x512x512_0_2_3 M) (ix4 b c h w) = M (ix3 b h w) := by
    pointwise []
  exact congrArg (Ideal.cmp .oeq (X (ix4 b c h w))) e

/-- The precondition at a pixel. -/
theorem usual_at (e : fn (F := Ideal) X T = fun _ => 1#1) (b : Fin 8) (h w : Fin 512) :
    ((∀ c : Fin 19, X (ix4 b c h w) = (((show EReal from X (ix4 b c h w)).toReal : ℝ) : EReal))
      ∧ ∃ p : Fin 19, ∀ c : Fin 19, c ≠ p → (show EReal from X (ix4 b c h w)).toReal < (show EReal from X (ix4 b p h w)).toReal)
    ∧ (T (ix3 b h w)).toNat < 19 ∧ T (ix3 b h w) = BitVec.ofNat 32 (T (ix3 b h w)).toNat := by
  obtain ⟨h1, h2, h3, h4⟩ := split _ _ _ e (ix3 b h w)
  beta_reduce at h1 h2
  refine ⟨one_top (fun c => X (ix4 b c h w)) ?_ ?_, class_of _ h3 h4⟩
  · rw [top_at] at h1
    exact h1
  · rw [count_at] at h2
    have hs : ∑ c : Fin 19, (if (show EReal from X (ix4 b c h w)) = (Finset.univ : Finset (Fin 19)).fold max (⊥ : EReal) (fun c => X (ix4 b c h w)) then 1 else 0)
        = ∑ c : Fin 19, (cmpf .oeq X (broadcastInDim S8x19x512x512 ![0, 1, 2, 3] bcast_S8x1x512x512_S8x19x512x512_0_1_2_3
      (broadcastInDim S8x1x512x512 ![0, 2, 3] bcast_S8x512x512_S8x1x512x512_0_2_3
        (Host.reduce FloatOps.maximumf X (constant S_ .f32 0xFF800000#32) reducesTo_S8x19x512x512_S8x512x512_d1 h_S_))) (ix4 b c h w)).toNat := by
      refine Finset.sum_congr rfl fun c _ => ?_
      rw [flag_at, top_at]
      by_cases q : (show EReal from X (ix4 b c h w)) = (Finset.univ : Finset (Fin 19)).fold max (⊥ : EReal) (fun c => X (ix4 b c h w))
      · rw [if_pos q, Ideal.cmp]; rw [decide_eq_true q]; rfl
      · rw [if_neg q, Ideal.cmp]; rw [decide_eq_false q]; rfl
    rw [hs]
    have hle : ∑ c : Fin 19, (cmpf .oeq X (broadcastInDim S8x19x512x512 ![0, 1, 2, 3] bcast_S8x1x512x512_S8x19x512x512_0_1_2_3
      (broadcastInDim S8x1x512x512 ![0, 2, 3] bcast_S8x512x512_S8x1x512x512_0_2_3
        (Host.reduce FloatOps.maximumf X (constant S_ .f32 0xFF800000#32) reducesTo_S8x19x512x512_S8x512x512_d1 h_S_))) (ix4 b c h w)).toNat ≤ ∑ _c : Fin 19, 1 :=
      Finset.sum_le_sum fun c _ => by have := BitVec.isLt (cmpf .oeq X (broadcastInDim S8x19x512x512 ![0, 1, 2, 3] bcast_S8x1x512x512_S8x19x512x512_0_1_2_3
      (broadcastInDim S8x1x512x512 ![0, 2, 3] bcast_S8x512x512_S8x1x512x512_0_2_3
        (Host.reduce FloatOps.maximumf X (constant S_ .f32 0xFF800000#32) reducesTo_S8x19x512x512_S8x512x512_d1 h_S_))) (ix4 b c h w)); omega
    have h5 := congrArg BitVec.toNat h2
    rw [BitVec.toNat_ofNat, Nat.mod_eq_of_lt (lt_of_le_of_lt hle (by simp))] at h5
    exact h5

/-- The logits as reals, by the class's number. -/
def real (b : Fin 8) (h w : Fin 512) (c : ℕ) : ℝ := (show EReal from X (ix4 b (Fin.ofNat 19 c) h w)).toReal

/-- The targets as numbers. -/
def target (b : Fin 8) (h w : Fin 512) : ℕ := (T (ix3 b h w)).toNat

theorem real_at (e : fn (F := Ideal) X T = fun _ => 1#1) (b : Fin 8) (h w : Fin 512) (c : Fin 19) :
    X (ix4 b c h w) = ((real X b h w c.val : ℝ) : EReal) := by
  unfold real
  rw [show Fin.ofNat 19 c.val = c from Fin.ext (Nat.mod_eq_of_lt c.isLt)]
  exact (usual_at X T e b h w).1.1 c

theorem real_top (e : fn (F := Ideal) X T = fun _ => 1#1) (b : Fin 8) (h w : Fin 512) :
    ∃ p, p < 19 ∧ ∀ c, c < 19 → c ≠ p → real X b h w c < real X b h w p := by
  obtain ⟨p, hp⟩ := (usual_at X T e b h w).1.2
  refine ⟨p.val, p.isLt, fun c hc hne => ?_⟩
  unfold real
  rw [show Fin.ofNat 19 p.val = p from Fin.ext (Nat.mod_eq_of_lt p.isLt)]
  refine hp _ fun q => hne ?_
  rw [← q]
  exact (Nat.mod_eq_of_lt hc).symm

theorem target_at (e : fn (F := Ideal) X T = fun _ => 1#1) (b : Fin 8) (h w : Fin 512) :
    target T b h w < 19 ∧ T (ix3 b h w) = BitVec.ofNat 32 (target T b h w) :=
  (usual_at X T e b h w).2

end Cert.Pre_usual.Hand
-- ==== Proof.Equal.lean ====
module

public import proofs.«01_k».proof.Defs
public import proofs.«01_k».proof.Proof.KRun
public import proofs.«01_k».proof.Proof.RefRun
public import proofs.«01_k».proof.Proof.RLoss
public import proofs.«01_k».proof.Proof.RPre

/-! Kernel and reference end at the same real number. -/

@[expose] public section

noncomputable section

namespace Cert.Hand

open Idealize.ShloMosaic Idealize.ShloMosaic.TcCoe Idealize.SL.Sem
open Cert.KernelIdeal.Hand (lossR)
open Cert.Pre_usual.Hand

/-- The loss as a real number, of the arguments. -/
def value (X : FVec Ideal Cert.Pre_usual.S8x19x512x512 .f32) (T : IVec Cert.Pre_usual.S8x512x512 32) : ℝ := lossR (real X) (target T)

/-- The reference's loss is that number. -/
theorem reference_value (X : FVec Ideal Cert.Pre_usual.S8x19x512x512 .f32) (T : IVec Cert.Pre_usual.S8x512x512 32)
    (e : Cert.Pre_usual.fn (F := Ideal) X T = fun _ => 1#1) :
    Cert.ReferenceIdeal.Hand.loss (F := Ideal) X T = fun _ => ((value X T : ℝ) : EReal) :=
  Cert.ReferenceIdeal.Hand.loss_eq X T (real X) (target T) (real_at X T e) (real_top X T e) (target_at X T e)

section
open Cert.KernelIdeal Cert.KernelIdeal.Gen

/-- The kernel's output array ends at that number. -/
theorem kernel_value (m : (ℓ : Loc nD τ sig) → Buf (Elt Ideal) ℓ) (c : Dev nD)
    (e : Cert.Pre_usual.fn (F := Ideal) (m ((c.tc : Thread nD τ).loc main_arg0)) (m ((c.tc : Thread nD τ).loc main_arg1)) = fun _ => 1#1) :
    (dats m 0 c).arrAt 2 (cfgs 0).N
      = fun _ => ((value (m ((c.tc : Thread nD τ).loc main_arg0)) (m ((c.tc : Thread nD τ).loc main_arg1)) : ℝ) : EReal) :=
  Cert.KernelIdeal.Hand.final m c (real (m ((c.tc : Thread nD τ).loc main_arg0))) (target (m ((c.tc : Thread nD τ).loc main_arg1)))
    (real_at _ _ e) (target_at _ _ e)

end

/-- Run on the same arguments, under the precondition, both end at that number. -/
theorem equal : @algebraic_KernelIdeal_ReferenceIdeal_pre_usual Cert.KernelIdeal.Gen.facts Cert.ReferenceIdeal.Gen.facts Cert.Pre_usual.Gen.facts := by
  intro m g m' g' hpre hagree
  refine ⟨fun c _ => ((value (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) : ℝ) : EReal),
    Cert.KernelIdeal.Hand.run m g _ fun c => kernel_value m c (hpre c),
    (θ_run _ _ _).mono (fun _ h c => ⟨(h c).1.trans ?_, (h c).2⟩) (Cert.ReferenceIdeal.Hand.run m' g')⟩
  refine (congrArg₂ Cert.ReferenceIdeal.Hand.loss (hagree c).1 (hagree c).2).trans ?_
  exact reference_value _ _ (hpre c)

end Cert.Hand
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_usual
public import proofs.«01_k».proof.Proof.RefRun
public import proofs.«01_k».proof.Proof.Equal
public import Idealize.ShloMosaic.Lib.Quiescent

@[expose] public section

open Idealize.ShloMosaic Idealize.ShloMosaic.TcCoe Idealize.SL.Sem

namespace Cert.ReferenceIdeal.Hand

open Cert.ReferenceIdeal

/-- The reference leaves its arguments alone, and it has no semaphore to leave raised. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (run m ρ)

end Cert.ReferenceIdeal.Hand

/-- Everything claimed, assembled. -/
theorem Cert.Proof.claim : Cert.Claim := by
  refine ⟨Cert.Kernel.Gen.facts, Cert.KernelIdeal.Gen.facts, Cert.ReferenceIdeal.Gen.facts, Cert.Pre_usual.Gen.facts, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => Cert.ReferenceIdeal.Hand.frame m ρ
  · exact fun m ρ _ => Cert.ReferenceIdeal.Hand.frame m ρ
  · exact ⟨IdealRules.named_const.statement Cert.KernelIdeal.κ "log2_e" .f32 0x3FB8AA3B#32 _ rfl,
      IdealRules.named_const.statement Cert.KernelIdeal.κ "ln_2" .f32 0x3F317218#32 _ rfl⟩
  · exact Cert.Hand.equal
